-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_seq" .f32 0x38E38E39#32 ((1 / 9216 : ℝ) : EReal)
  ∧ IdealRules.named_const.Statement Cert.KernelIdeal.κ "inv_gw" .f32 0x3DCCCCCD#32 ((1 / 10 : ℝ) : EReal)
  ∧ IdealRules.named_const.Statement Cert.KernelIdeal.κ "neg_log2e" .f32 0xBFB8AA3B#32 ((-((Real.log 2)⁻¹) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53_0) = v0 c
          ∧ r.2.mem ((c.tc : Thread Cert.ReferenceIdeal.nD Cert.ReferenceIdeal.τ).loc Cert.ReferenceIdeal.main_v53_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S14x9216x320 : Shape := ⟨3, ![14, 9216, 320]⟩
abbrev S14x320 : Shape := ⟨2, ![14, 320]⟩
abbrev S320 : Shape := ⟨1, ![320]⟩
abbrev S14x1x320 : Shape := ⟨3, ![14, 1, 320]⟩
abbrev S14x9216x32x10 : Shape := ⟨4, ![14, 9216, 32, 10]⟩
abbrev S_ : Shape := ⟨0, ![]⟩
abbrev S14x32 : Shape := ⟨2, ![14, 32]⟩
abbrev S14x1x32x1 : Shape := ⟨4, ![14, 1, 32, 1]⟩
abbrev S1x1x320 : Shape := ⟨3, ![1, 1, 320]⟩

class Facts : Prop where
  bitsLt_bf16_f32 : FTy.bits .bf16 < FTy.bits .f32
  bcast_S14x320_S14x1x320_0_2 : S14x320.BroadcastsInDim S14x1x320 (![0, 2] : Fin 2 → Fin S14x1x320.rank)
  bcast_S14x1x320_S14x9216x320_0_1_2 : S14x1x320.BroadcastsInDim S14x9216x320 (![0, 1, 2] : Fin 3 → Fin S14x9216x320.rank)
  shapeCasts_S14x9216x320_S14x9216x32x10 : S14x9216x320.ShapeCasts S14x9216x32x10
  reducesTo_S14x9216x32x10_S14x32_d1_3 : S14x9216x32x10.ReducesTo [1, 3] S14x32
  h_S_ : 0 < S_.numel
  bcast_S14x32_S14x1x32x1_0_2 : S14x32.BroadcastsInDim S14x1x32x1 (![0, 2] : Fin 2 → Fin S14x1x32x1.rank)
  bcast_S_S14x1x32x1 : S_.BroadcastsInDim S14x1x32x1 (![] : Fin 0 → Fin S14x1x32x1.rank)
  bcast_S14x1x32x1_S14x9216x32x10_0_1_2_3 : S14x1x32x1.BroadcastsInDim S14x9216x32x10 (![0, 1, 2, 3] : Fin 4 → Fin S14x9216x32x10.rank)
  shapeCasts_S14x9216x32x10_S14x9216x320 : S14x9216x32x10.ShapeCasts S14x9216x320
  bcast_S320_S1x1x320_2 : S320.BroadcastsInDim S1x1x320 (![2] : Fin 1 → Fin S1x1x320.rank)
  bcast_S1x1x320_S14x9216x320_0_1_2 : S1x1x320.BroadcastsInDim S14x9216x320 (![0, 1, 2] : Fin 3 → Fin S14x9216x320.rank)
  bcast_S_S14x9216x320 : S_.BroadcastsInDim S14x9216x320 (![] : Fin 0 → Fin S14x9216x320.rank)
  reducesTo_S14x9216x320_S_d0_1_2 : S14x9216x320.ReducesTo [0, 1, 2] S_
  bcast_S_S320 : S_.BroadcastsInDim S320 (![] : Fin 0 → Fin S320.rank)
  reducesTo_S320_S_d0 : S320.ReducesTo [0] S_

variable [Facts]

def fn_part2 {F : FTy → Type} [FloatOps F] (main_arg2 : FVec F S320 .f32) (main_v37 : FVec F S_ .f32) (main_v39 : FVec F S14x9216x320 .f32) : IVec S_ 1 × IVec S_ 1 × IVec S_ 1 × IVec S_ 1 :=
  let main_cst_7 : FVec F S_ .f32 := constant S_ .f32 0x7F800000#32
  let main_v40 : FVec F S14x9216x320 .f32 := broadcastInDim S14x9216x320 ![] bcast_S_S14x9216x320 main_cst_7
  let main_v41 : IVec S14x9216x320 1 := cmpf .olt main_v39 main_v40
  let main_c : IVec S_ 1 := constantI S_ 1 1#1
  let main_v42 : IVec S_ 1 := (fun x v => Host.reduce IntOp.andi x v reducesTo_S14x9216x320_S_d0_1_2 h_S_) main_v41 main_c
  let main_v43 : FVec F S320 .f32 := Host.absf main_arg2
  let main_cst_8 : FVec F S_ .f32 := constant S_ .f32 0x7F800000#32
  let main_v44 : FVec F S320 .f32 := broadcastInDim S320 ![] bcast_S_S320 main_cst_8
  let main_v45 : IVec S320 1 := cmpf .olt main_v43 main_v44
  let main_c_9 : IVec S_ 1 := constantI S_ 1 1#1
  let main_v46 : IVec S_ 1 := (fun x v => Host.reduce IntOp.andi x v reducesTo_S320_S_d0 h_S_) main_v45 main_c_9
  let main_cst_10 : FVec F S_ .f32 := constant S_ .f32 0x3E8F5C29#32
  let main_v47 : IVec S_ 1 := cmpf .ogt main_v37 main_cst_10
  let main_cst_11 : FVec F S_ .f32 := constant S_ .f32 0x7F61B1E6#32
  let main_v48 : IVec S_ 1 := cmpf .olt main_v37 main_cst_11
  (main_v42, main_v46, main_v47, main_v48)

def fn_part1 {F : FTy → Type} [FloatOps F] (main_arg0 : FVec F S14x9216x320 .bf16) (main_arg2 : FVec F S320 .f32) (main_arg3 : FVec F S320 .f32) (main_v11 : FVec F S14x9216x32x10 .f32) (main_v18 : FVec F S14x1x32x1 .f32) : IVec S_ 1 × IVec S_ 1 × IVec S_ 1 × IVec S_ 1 :=
  let main_v19 : FVec F S14x1x32x1 .f32 := Host.rsqrt main_v18
  let main_v20 : FVec F S14x9216x32x10 .f32 := broadcastInDim S14x9216x32x10 ![0, 1, 2, 3] bcast_S14x1x32x1_S14x9216x32x10_0_1_2_3 main_v19
  let main_v21 : FVec F S14x9216x32x10 .f32 := mulf main_v11 main_v20
  let main_v22 : FVec F S14x9216x320 .f32 := shapeCast S14x9216x320 main_v21 shapeCasts_S14x9216x32x10_S14x9216x320
  let main_v23 : FVec F S1x1x320 .f32 := broadcastInDim S1x1x320 ![2] bcast_S320_S1x1x320_2 main_arg2
  let main_v24 : FVec F S14x9216x320 .f32 := broadcastInDim S14x9216x320 ![0, 1, 2] bcast_S1x1x320_S14x9216x320_0_1_2 main_v23
  let main_v25 : FVec F S14x9216x320 .f32 := mulf main_v22 main_v24
  let main_v26 : FVec F S1x1x320 .f32 := broadcastInDim S1x1x320 ![2] bcast_S320_S1x1x320_2 main_arg3
  let main_v27 : FVec F S14x9216x320 .f32 := broadcastInDim S14x9216x320 ![0, 1, 2] bcast_S1x1x320_S14x9216x320_0_1_2 main_v26
  let main_v28 : FVec F S14x9216x320 .f32 := addf main_v25 main_v27
  let main_v29 : FVec F S14x9216x320 .f32 := Host.negf main_v28
  let main_v30 : FVec F S14x9216x320 .f32 := Host.exp main_v29
  let main_cst_4 : FVec F S_ .f32 := constant S_ .f32 0x3F800000#32
  let main_v31 : FVec F S14x9216x320 .f32 := broadcastInDim S14x9216x320 ![] bcast_S_S14x9216x320 main_cst_4
  let main_v32 : FVec F S14x9216x320 .f32 := addf main_v31 main_v30
  let main_cst_5 : FVec F S_ .f32 := constant S_ .f32 0x3F800000#32
  let main_v33 : FVec F S14x9216x320 .f32 := broadcastInDim S14x9216x320 ![] bcast_S_S14x9216x320 main_cst_5
  let main_v34 : FVec F S14x9216x320 .f32 := Host.divf main_v33 main_v32
  let main_v35 : FVec F S14x9216x320 .f32 := mulf main_v28 main_v34
  let main_v36 : FVec F S14x9216x320 .f32 := Host.absf main_v35
  let main_cst_6 : FVec F S_ .f32 := constant S_ .f32 0xFF800000#32
  let main_v37 : FVec F S_ .f32 := (fun x v => Host.reduce FloatOps.maximumf x v reducesTo_S14x9216x320_S_d0_1_2 h_S_) main_v36 main_cst_6
  let main_v38 : FVec F S14x9216x320 .f32 := (extf .f32 · bitsLt_bf16_f32) main_arg0
  let main_v39 : FVec F S14x9216x320 .f32 := Host.absf main_v38
  fn_part2 (F := F) main_arg2 main_v37 main_v39

def fn {F : FTy → Type} [FloatOps F] (main_arg0 : FVec F S14x9216x320 .bf16) (main_arg1 : FVec F S14x320 .bf16) (main_arg2 : FVec F S320 .f32) (main_arg3 : FVec F S320 .f32) : IVec S_ 1 × IVec S_ 1 × IVec S_ 1 × IVec S_ 1 :=
  let main_v0 : FVec F S14x9216x320 .f32 := (extf .f32 · bitsLt_bf16_f32) main_arg0
  let main_v1 : FVec F S14x320 .f32 := (extf .f32 · bitsLt_bf16_f32) main_arg1
  let main_v2 : FVec F S14x1x320 .f32 := broadcastInDim S14x1x320 ![0, 2] bcast_S14x320_S14x1x320_0_2 main_v1
  let main_v3 : FVec F S14x9216x320 .f32 := broadcastInDim S14x9216x320 ![0, 1, 2] bcast_S14x1x320_S14x9216x320_0_1_2 main_v2
  let main_v4 : FVec F S14x9216x320 .f32 := addf main_v0 main_v3
  let main_v5 : FVec F S14x9216x32x10 .f32 := shapeCast S14x9216x32x10 main_v4 shapeCasts_S14x9216x320_S14x9216x32x10
  let main_cst : FVec F S_ .f32 := constant S_ .f32 0x00000000#32
  let main_v6 : FVec F S14x32 .f32 := (fun x v => Host.reduceAdd x v reducesTo_S14x9216x32x10_S14x32_d1_3 h_S_) main_v5 main_cst
  let main_v7 : FVec F S14x1x32x1 .f32 := broadcastInDim S14x1x32x1 ![0, 2] bcast_S14x32_S14x1x32x1_0_2 main_v6
  let main_cst_0 : FVec F S_ .f32 := constant S_ .f32 0x47B40000#32
  let main_v8 : FVec F S14x1x32x1 .f32 := broadcastInDim S14x1x32x1 ![] bcast_S_S14x1x32x1 main_cst_0
  let main_v9 : FVec F S14x1x32x1 .f32 := Host.divf main_v7 main_v8
  let main_v10 : FVec F S14x9216x32x10 .f32 := broadcastInDim S14x9216x32x10 ![0, 1, 2, 3] bcast_S14x1x32x1_S14x9216x32x10_0_1_2_3 main_v9
  let main_v11 : FVec F S14x9216x32x10 .f32 := subf main_v5 main_v10
  let main_v12 : FVec F S14x9216x32x10 .f32 := mulf main_v11 main_v11
  let main_cst_1 : FVec F S_ .f32 := constant S_ .f32 0x00000000#32
  let main_v13 : FVec F S14x32 .f32 := (fun x v => Host.reduceAdd x v reducesTo_S14x9216x32x10_S14x32_d1_3 h_S_) main_v12 main_cst_1
  let main_v14 : FVec F S14x1x32x1 .f32 := broadcastInDim S14x1x32x1 ![0, 2] bcast_S14x32_S14x1x32x1_0_2 main_v13
  let main_cst_2 : FVec F S_ .f32 := constant S_ .f32 0x47B40000#32
  let main_v15 : FVec F S14x1x32x1 .f32 := broadcastInDim S14x1x32x1 ![] bcast_S_S14x1x32x1 main_cst_2
  let main_v16 : FVec F S14x1x32x1 .f32 := Host.divf main_v14 main_v15
  let main_cst_3 : FVec F S_ .f32 := constant S_ .f32 0x3727C5AC#32
  let main_v17 : FVec F S14x1x32x1 .f32 := broadcastInDim S14x1x32x1 ![] bcast_S_S14x1x32x1 main_cst_3
  let main_v18 : FVec F S14x1x32x1 .f32 := addf main_v16 main_v17
  fn_part1 (F := F) main_arg0 main_arg2 main_arg3 main_v11 main_v18
-- ==== Kernel.lean ====
abbrev S14x9216x320 : Shape := ⟨3, ![14, 9216, 320]⟩
abbrev S14x320 : Shape := ⟨2, ![14, 320]⟩
abbrev S320 : Shape := ⟨1, ![320]⟩
abbrev S_ : Shape := ⟨0, ![]⟩
abbrev S320x1 : Shape := ⟨2, ![320, 1]⟩
abbrev S1x320 : Shape := ⟨2, ![1, 320]⟩
abbrev S320x320 : Shape := ⟨2, ![320, 320]⟩
abbrev S16x256 : Shape := ⟨2, ![16, 256]⟩
abbrev S14x1x320 : Shape := ⟨3, ![14, 1, 320]⟩
abbrev S14x8x320 : Shape := ⟨3, ![14, 8, 320]⟩
abbrev S1x9216x320 : Shape := ⟨3, ![1, 9216, 320]⟩
abbrev S1x1x320 : Shape := ⟨3, ![1, 1, 320]⟩
abbrev S1x8x320 : Shape := ⟨3, ![1, 8, 320]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩
abbrev S1x16x64 : Shape := ⟨3, ![1, 16, 64]⟩
abbrev S16x64 : Shape := ⟨2, ![16, 64]⟩
abbrev S64 : Shape := ⟨1, ![64]⟩
abbrev S1x64 : Shape := ⟨2, ![1, 64]⟩
abbrev S8x320 : Shape := ⟨2, ![8, 320]⟩
abbrev S8x128 : Shape := ⟨2, ![8, 128]⟩
abbrev S1 : Shape := ⟨1, ![1]⟩
abbrev S1x1x1 : Shape := ⟨3, ![1, 1, 1]⟩
abbrev S1x1 : Shape := ⟨2, ![1, 1]⟩
abbrev S1x1x128 : Shape := ⟨3, ![1, 1, 128]⟩
abbrev S1x128 : Shape := ⟨2, ![1, 128]⟩
abbrev S1x1x64 : Shape := ⟨3, ![1, 1, 64]⟩
abbrev S1x128x128 : Shape := ⟨3, ![1, 128, 128]⟩
abbrev S128x128 : Shape := ⟨2, ![128, 128]⟩
abbrev S1x64x64 : Shape := ⟨3, ![1, 64, 64]⟩
abbrev S64x64 : Shape := ⟨2, ![64, 64]⟩
abbrev S64x128 : Shape := ⟨2, ![64, 128]⟩

abbrev nBuf : Space → Nat
  | .hbm => 39
  | .vmem => 18
  | .smem => 0
  | _ => 0

abbrev bufTy : (tb : Table) → Fin (tcTables nBuf tb) → BufTy
  | .hbm, ⟨0, _⟩ => ⟨S14x9216x320, .bf16⟩
  | .hbm, ⟨1, _⟩ => ⟨S14x320, .bf16⟩
  | .hbm, ⟨2, _⟩ => ⟨S320, .f32⟩
  | .hbm, ⟨3, _⟩ => ⟨S320, .f32⟩
  | .hbm, ⟨4, _⟩ => ⟨S320, .i32⟩
  | .hbm, ⟨5, _⟩ => ⟨S_, .i32⟩
  | .hbm, ⟨6, _⟩ => ⟨S_, .i32⟩
  | .hbm, ⟨7, _⟩ => ⟨S320, .i32⟩
  | .hbm, ⟨8, _⟩ => ⟨S320, .i32⟩
  | .hbm, ⟨9, _⟩ => ⟨S320, .i32⟩
  | .hbm, ⟨10, _⟩ => ⟨S_, .i32⟩
  | .hbm, ⟨11, _⟩ => ⟨S320, .i32⟩
  | .hbm, ⟨12, _⟩ => ⟨S320, .i1⟩
  | .hbm, ⟨13, _⟩ => ⟨S320, .i32⟩
  | .hbm, ⟨14, _⟩ => ⟨S320, .i32⟩
  | .hbm, ⟨15, _⟩ => ⟨S_, .i32⟩
  | .hbm, ⟨16, _⟩ => ⟨S320, .i32⟩
  | .hbm, ⟨17, _⟩ => ⟨S320, .i1⟩
  | .hbm, ⟨18, _⟩ => ⟨S320, .i1⟩
  | .hbm, ⟨19, _⟩ => ⟨S_, .i32⟩
  | .hbm, ⟨20, _⟩ => ⟨S320, .i32⟩
  | .hbm, ⟨21, _⟩ => ⟨S320, .i32⟩
  | .hbm, ⟨22, _⟩ => ⟨S320, .i32⟩
  | .hbm, ⟨23, _⟩ => ⟨S320x1, .i32⟩
  | .hbm, ⟨24, _⟩ => ⟨S1x320, .i32⟩
  | .hbm, ⟨25, _⟩ => ⟨S320x320, .i32⟩
  | .hbm, ⟨26, _⟩ => ⟨S320x320, .i32⟩
  | .hbm, ⟨27, _⟩ => ⟨S320x320, .i1⟩
  | .hbm, ⟨28, _⟩ => ⟨S320x320, .f32⟩
  | .hbm, ⟨29, _⟩ => ⟨S_, .bf16⟩
  | .hbm, ⟨30, _⟩ => ⟨S16x256, .bf16⟩
  | .hbm, ⟨31, _⟩ => ⟨S14x1x320, .bf16⟩
  | .hbm, ⟨32, _⟩ => ⟨S1x320, .f32⟩
  | .hbm, ⟨33, _⟩ => ⟨S1x320, .f32⟩
  | .hbm, ⟨34, _⟩ => ⟨S14x8x320, .f32⟩
  | .hbm, ⟨35, _⟩ => ⟨S14x9216x320, .fp8e4m3⟩
  | .hbm, ⟨36, _⟩ => ⟨S8x128, .f32⟩
  | .hbm, ⟨37, _⟩ => ⟨S1x1, .f32⟩
  | .hbm, ⟨38, _⟩ => ⟨S_, .f32⟩
  | .local _ .vmem, ⟨0, _⟩ => ⟨S1x9216x320, .bf16⟩
  | .local _ .vmem, ⟨1, _⟩ => ⟨S1x9216x320, .bf16⟩
  | .local _ .vmem, ⟨2, _⟩ => ⟨S1x1x320, .bf16⟩
  | .local _ .vmem, ⟨3, _⟩ => ⟨S1x1x320, .bf16⟩
  | .local _ .vmem, ⟨4, _⟩ => ⟨S1x320, .f32⟩
  | .local _ .vmem, ⟨5, _⟩ => ⟨S1x320, .f32⟩
  | .local _ .vmem, ⟨6, _⟩ => ⟨S320x320, .f32⟩
  | .local _ .vmem, ⟨7, _⟩ => ⟨S16x256, .bf16⟩
  | .local _ .vmem, ⟨8, _⟩ => ⟨S1x8x320, .f32⟩
  | .local _ .vmem, ⟨9, _⟩ => ⟨S1x8x320, .f32⟩
  | .local _ .vmem, ⟨10, _⟩ => ⟨S1x9216x320, .bf16⟩
  | .local _ .vmem, ⟨11, _⟩ => ⟨S1x9216x320, .bf16⟩
  | .local _ .vmem, ⟨12, _⟩ => ⟨S1x8x320, .f32⟩
  | .local _ .vmem, ⟨13, _⟩ => ⟨S1x8x320, .f32⟩
  | .local _ .vmem, ⟨14, _⟩ => ⟨S14x8x320, .f32⟩
  | .local _ .vmem, ⟨15, _⟩ => ⟨S1x9216x320, .fp8e4m3⟩
  | .local _ .vmem, ⟨16, _⟩ => ⟨S1x9216x320, .fp8e4m3⟩
  | .local _ .vmem, ⟨17, _⟩ => ⟨S8x128, .f32⟩
  | _, _ => ⟨S14x9216x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13_0 : Ref sig .tc := ⟨.hbm, 35, rfl⟩
abbrev main_v13_1 : Ref sig .tc := ⟨.hbm, 36, rfl⟩
abbrev main_v14 : Ref sig .tc := ⟨.hbm, 37, rfl⟩
abbrev main_v15 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32 : BitVec 32 := 0#32
  let c36_i32 : BitVec 32 := 36#32
  let v6 : BitVec 32 := Scalar.addi c0_i32 c36_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c0_i32_46 : BitVec 32 := 0#32
  let v103 : BitVec 32 := Scalar.addi v102 c0_i32_46
  v103
def k0_off1 (k0_t1 : Fin k0_t1_loop.trips) (c0_i32_46 : BitVec 32) : Fin 3 → Nat :=
  let c0_47 : Index := 0#32
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let v103 : BitVec 32 := Scalar.addi v102 c0_i32_46
  let v104 : BitVec 32 := v103
  let v105 : Index := Scalar.indexCast v104
  let c0_48 : Index := 0#32
  ![0, v105.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c8_i32 : BitVec 32 := 8#32
  let v114 : BitVec 32 := Scalar.addi v102 c8_i32
  v114
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c16_i32 : BitVec 32 := 16#32
  let v127 : BitVec 32 := Scalar.addi v102 c16_i32
  v127
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c24_i32 : BitVec 32 := 24#32
  let v140 : BitVec 32 := Scalar.addi v102 c24_i32
  v140
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c32_i32 : BitVec 32 := 32#32
  let v153 : BitVec 32 := Scalar.addi v102 c32_i32
  v153
def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c40_i32 : BitVec 32 := 40#32
  let v166 : BitVec 32 := Scalar.addi v102 c40_i32
  v166
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c48_i32 : BitVec 32 := 48#32
  let v179 : BitVec 32 := Scalar.addi v102 c48_i32
  v179
def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c56_i32 : BitVec 32 := 56#32
  let v192 : BitVec 32 := Scalar.addi v102 c56_i32
  v192
def k0_mult9 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c64_i32 : BitVec 32 := 64#32
  let v205 : BitVec 32 := Scalar.addi v102 c64_i32
  v205
def k0_mult10 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c72_i32 : BitVec 32 := 72#32
  let v218 : BitVec 32 := Scalar.addi v102 c72_i32
  v218
def k0_mult11 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c80_i32 : BitVec 32 := 80#32
  let v231 : BitVec 32 := Scalar.addi v102 c80_i32
  v231
def k0_mult12 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c88_i32 : BitVec 32 := 88#32
  let v244 : BitVec 32 := Scalar.addi v102 c88_i32
  v244
def k0_mult13 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c96_i32 : BitVec 32 := 96#32
  let v257 : BitVec 32 := Scalar.addi v102 c96_i32
  v257
def k0_mult14 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c104_i32 : BitVec 32 := 104#32
  let v270 : BitVec 32 := Scalar.addi v102 c104_i32
  v270
def k0_mult15 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c112_i32 : BitVec 32 := 112#32
  let v283 : BitVec 32 := Scalar.addi v102 c112_i32
  v283
def k0_mult16 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c120_i32 : BitVec 32 := 120#32
  let v296 : BitVec 32 := Scalar.addi v102 c120_i32
  v296
def k0_mult17 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c128_i32 : BitVec 32 := 128#32
  let v309 : BitVec 32 := Scalar.addi v102 c128_i32
  v309
def k0_mult18 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c136_i32 : BitVec 32 := 136#32
  let v322 : BitVec 32 := Scalar.addi v102 c136_i32
  v322
def k0_mult19 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c144_i32 : BitVec 32 := 144#32
  let v335 : BitVec 32 := Scalar.addi v102 c144_i32
  v335
def k0_mult20 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c152_i32 : BitVec 32 := 152#32
  let v348 : BitVec 32 := Scalar.addi v102 c152_i32
  v348
def k0_mult21 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c160_i32 : BitVec 32 := 160#32
  let v361 : BitVec 32 := Scalar.addi v102 c160_i32
  v361
def k0_mult22 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c168_i32 : BitVec 32 := 168#32
  let v374 : BitVec 32 := Scalar.addi v102 c168_i32
  v374
def k0_mult23 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c176_i32 : BitVec 32 := 176#32
  let v387 : BitVec 32 := Scalar.addi v102 c176_i32
  v387
def k0_mult24 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c184_i32 : BitVec 32 := 184#32
  let v400 : BitVec 32 := Scalar.addi v102 c184_i32
  v400
def k0_mult25 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c192_i32 : BitVec 32 := 192#32
  let v413 : BitVec 32 := Scalar.addi v102 c192_i32
  v413
def k0_mult26 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c200_i32 : BitVec 32 := 200#32
  let v426 : BitVec 32 := Scalar.addi v102 c200_i32
  v426
def k0_mult27 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c208_i32 : BitVec 32 := 208#32
  let v439 : BitVec 32 := Scalar.addi v102 c208_i32
  v439
def k0_mult28 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c216_i32 : BitVec 32 := 216#32
  let v452 : BitVec 32 := Scalar.addi v102 c216_i32
  v452
def k0_mult29 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c224_i32 : BitVec 32 := 224#32
  let v465 : BitVec 32 := Scalar.addi v102 c224_i32
  v465
def k0_mult30 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c232_i32 : BitVec 32 := 232#32
  let v478 : BitVec 32 := Scalar.addi v102 c232_i32
  v478
def k0_mult31 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c240_i32 : BitVec 32 := 240#32
  let v491 : BitVec 32 := Scalar.addi v102 c240_i32
  v491
def k0_mult32 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v102 : BitVec 32 := Scalar.muli arg8 c256_i32
  let c248_i32 : BitVec 32 := 248#32
  let v504 : BitVec 32 := Scalar.addi v102 c248_i32
  v504
@[reducible] def k0_t2_loop : Scf.Loop 32 :=
  let c0_i32_12 : BitVec 32 := 0#32
  let c36_i32_13 : BitVec 32 := 36#32
  let v21 : BitVec 32 := Scalar.addi c0_i32_12 c36_i32_13
  let c1_i32_14 : BitVec 32 := 1#32
  ⟨c0_i32_12, v21, c1_i32_14⟩
def k0_mult33 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c0_i32_46 : BitVec 32 := 0#32
  let v103 : BitVec 32 := Scalar.addi v102 c0_i32_46
  v103
def k0_off2 (k0_t2 : Fin k0_t2_loop.trips) (c0_i32_46 : BitVec 32) : Fin 3 → Nat :=
  let c0_47 : Index := 0#32
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let v103 : BitVec 32 := Scalar.addi v102 c0_i32_46
  let v104 : BitVec 32 := v103
  let v105 : Index := Scalar.indexCast v104
  let c256_48 : Index := 256#32
  ![0, v105.toNat, 256]
def k0_mult34 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c16_i32 : BitVec 32 := 16#32
  let v114 : BitVec 32 := Scalar.addi v102 c16_i32
  v114
def k0_mult35 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c32_i32 : BitVec 32 := 32#32
  let v127 : BitVec 32 := Scalar.addi v102 c32_i32
  v127
def k0_mult36 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c48_i32 : BitVec 32 := 48#32
  let v140 : BitVec 32 := Scalar.addi v102 c48_i32
  v140
def k0_mult37 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c64_i32 : BitVec 32 := 64#32
  let v153 : BitVec 32 := Scalar.addi v102 c64_i32
  v153
def k0_mult38 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c80_i32 : BitVec 32 := 80#32
  let v166 : BitVec 32 := Scalar.addi v102 c80_i32
  v166
def k0_mult39 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c96_i32 : BitVec 32 := 96#32
  let v179 : BitVec 32 := Scalar.addi v102 c96_i32
  v179
def k0_mult40 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c112_i32 : BitVec 32 := 112#32
  let v192 : BitVec 32 := Scalar.addi v102 c112_i32
  v192
def k0_mult41 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c128_i32 : BitVec 32 := 128#32
  let v205 : BitVec 32 := Scalar.addi v102 c128_i32
  v205
def k0_mult42 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c144_i32 : BitVec 32 := 144#32
  let v218 : BitVec 32 := Scalar.addi v102 c144_i32
  v218
def k0_mult43 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c160_i32 : BitVec 32 := 160#32
  let v231 : BitVec 32 := Scalar.addi v102 c160_i32
  v231
def k0_mult44 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c176_i32 : BitVec 32 := 176#32
  let v244 : BitVec 32 := Scalar.addi v102 c176_i32
  v244
def k0_mult45 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c192_i32 : BitVec 32 := 192#32
  let v257 : BitVec 32 := Scalar.addi v102 c192_i32
  v257
def k0_mult46 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c208_i32 : BitVec 32 := 208#32
  let v270 : BitVec 32 := Scalar.addi v102 c208_i32
  v270
def k0_mult47 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c224_i32 : BitVec 32 := 224#32
  let v283 : BitVec 32 := Scalar.addi v102 c224_i32
  v283
def k0_mult48 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c256_i32 : BitVec 32 := 256#32
  let v102 : BitVec 32 := Scalar.muli arg8 c256_i32
  let c240_i32 : BitVec 32 := 240#32
  let v296 : BitVec 32 := Scalar.addi v102 c240_i32
  v296
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x9216x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![14], ![false]⟩

@[reducible] def k1_t1_loop : Scf.Loop 32 :=
  let c0_i32_3 : BitVec 32 := 0#32
  let c255_i32 : BitVec 32 := 255#32
  let v12 : BitVec 32 := Scalar.addi c0_i32_3 c255_i32
  let c1_i32 : BitVec 32 := 1#32
  ⟨c0_i32_3, v12, c1_i32⟩
@[reducible] def k1_t2_loop : Scf.Loop 32 :=
  let c0_i32_27 : BitVec 32 := 0#32
  let c72_i32 : BitVec 32 := 72#32
  let v65 : BitVec 32 := Scalar.addi c0_i32_27 c72_i32
  let c1_i32_28 : BitVec 32 := 1#32
  ⟨c0_i32_27, v65, c1_i32_28⟩
def k1_mult1 (k1_t2 : Fin k1_t2_loop.trips) : BitVec 32 :=
  let c0_i32_27 : BitVec 32 := 0#32
  let c1_i32_28 : BitVec 32 := 1#32
  let arg6 : BitVec 32 := Scf.iv c0_i32_27 c1_i32_28 k1_t2
  let c128_i32 : BitVec 32 := 128#32
  let v66 : BitVec 32 := Scalar.muli arg6 c128_i32
  v66
def k1_off1 (k1_t2 : Fin k1_t2_loop.trips) : Fin 3 → Nat :=
  let c0_30 : Index := 0#32
  let c0_i32_27 : BitVec 32 := 0#32
  let c1_i32_28 : BitVec 32 := 1#32
  let arg6 : BitVec 32 := Scf.iv c0_i32_27 c1_i32_28 k1_t2
  let c128_i32 : BitVec 32 := 128#32
  let v66 : BitVec 32 := Scalar.muli arg6 c128_i32
  let v67 : BitVec 32 := v66
  let v68 : Index := Scalar.indexCast v67
  let c0_31 : Index := 0#32
  ![0, v68.toNat, 0]
def k1_off2 (k1_t2 : Fin k1_t2_loop.trips) : Fin 3 → Nat :=
  let c0_37 : Index := 0#32
  let c0_i32_27 : BitVec 32 := 0#32
  let c1_i32_28 : BitVec 32 := 1#32
  let arg6 : BitVec 32 := Scf.iv c0_i32_27 c1_i32_28 k1_t2
  let c128_i32 : BitVec 32 := 128#32
  let v66 : BitVec 32 := Scalar.muli arg6 c128_i32
  let v67 : BitVec 32 := v66
  let v91 : Index := Scalar.indexCast v67
  let c128_38 : Index := 128#32
  ![0, v91.toNat, 128]
def k1_off3 (k1_t2 : Fin k1_t2_loop.trips) : Fin 3 → Nat :=
  let c0_44 : Index := 0#32
  let c0_i32_27 : BitVec 32 := 0#32
  let c1_i32_28 : BitVec 32 := 1#32
  let arg6 : BitVec 32 := Scf.iv c0_i32_27 c1_i32_28 k1_t2
  let c128_i32 : BitVec 32 := 128#32
  let v66 : BitVec 32 := Scalar.muli arg6 c128_i32
  let v67 : BitVec 32 := v66
  let v114 : Index := Scalar.indexCast v67
  let c256_45 : Index := 256#32
  ![0, v114.toNat, 256]
def k1_off4 (k1_t2 : Fin k1_t2_loop.trips) : Fin 3 → Nat :=
  let c0_46 : Index := 0#32
  let c0_i32_27 : BitVec 32 := 0#32
  let c1_i32_28 : BitVec 32 := 1#32
  let arg6 : BitVec 32 := Scf.iv c0_i32_27 c1_i32_28 k1_t2
  let c128_i32 : BitVec 32 := 128#32
  let v66 : BitVec 32 := Scalar.muli arg6 c128_i32
  let v67 : BitVec 32 := v66
  let c64_i32 : BitVec 32 := 64#32
  let v117 : BitVec 32 := Scalar.addi v67 c64_i32
  let v118 : Index := Scalar.indexCast v117
  let c256_47 : Index := 256#32
  ![0, v118.toNat, 256]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x9216x320 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x320 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S14x8x320 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x9216x320 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== KernelIdeal.lean ====
variable {F : FTy → Type} [FloatOps F] [Named F]
def κ : String → Option EReal := fun
  | "inv_gw" => some ((1 / 10 : ℝ) : EReal)
  | "inv_seq" => some ((1 / 9216 : ℝ) : EReal)
  | "neg_log2e" => some ((-((Real.log 2)⁻¹) : ℝ) : EReal)
  | _ => none
-- ==== ReferenceIdeal.lean ====
abbrev S14x9216x320 : Shape := ⟨3, ![14, 9216, 320]⟩
abbrev S14x320 : Shape := ⟨2, ![14, 320]⟩
abbrev S320 : Shape := ⟨1, ![320]⟩
abbrev S14x1x320 : Shape := ⟨3, ![14, 1, 320]⟩
abbrev S14x9216x32x10 : Shape := ⟨4, ![14, 9216, 32, 10]⟩
abbrev S_ : Shape := ⟨0, ![]⟩
abbrev S14x32 : Shape := ⟨2, ![14, 32]⟩
abbrev S14x1x32x1 : Shape := ⟨4, ![14, 1, 32, 1]⟩
abbrev S1x1x320 : Shape := ⟨3, ![1, 1, 320]⟩

abbrev nBuf : Space → Nat
  | .hbm => 82
  | .vmem => 0
  | .smem => 0
  | _ => 0

abbrev bufTy : (tb : Table) → Fin (tcTables nBuf tb) → BufTy
  | .hbm, ⟨0, _⟩ => ⟨S14x9216x320, .bf16⟩
  | .hbm, ⟨1, _⟩ => ⟨S14x320, .bf16⟩
  | .hbm, ⟨2, _⟩ => ⟨S320, .f32⟩
  | .hbm, ⟨3, _⟩ => ⟨S320, .f32⟩
  | .hbm, ⟨4, _⟩ => ⟨S14x9216x320, .f32⟩
  | .hbm, ⟨5, _⟩ => ⟨S14x320, .f32⟩
  | .hbm, ⟨6, _⟩ => ⟨S14x1x320, .f32⟩
  | .hbm, ⟨7, _⟩ => ⟨S14x9216x320, .f32⟩
  | .hbm, ⟨8, _⟩ => ⟨S14x9216x320, .f32⟩
  | .hbm, ⟨9, _⟩ => ⟨S14x9216x32x10, .f32⟩
  | .hbm, ⟨10, _⟩ => ⟨S_, .f32⟩
  | .hbm, ⟨11, _⟩ => ⟨S14x32, .f32⟩
  | .hbm, ⟨12, _⟩ => ⟨S14x1x32x1, .f32⟩
  | .hbm, ⟨13, _⟩ => ⟨S_, .f32⟩
  | .hbm, ⟨14, _⟩ => ⟨S14x1x32x1, .f32⟩
  | .hbm, ⟨15, _⟩ => ⟨S14x1x32x1, .f32⟩
  | .hbm, ⟨16, _⟩ => ⟨S14x9216x32x10, .f32⟩
  | .hbm, ⟨17, _⟩ => ⟨S14x9216x32x10, .f32⟩
  | .hbm, ⟨18, _⟩ => ⟨S14x9216x32x10, .f32⟩
  | .hbm, ⟨19, _⟩ => ⟨S_, .f32⟩
  | .hbm, ⟨20, _⟩ => ⟨S14x32, .f32⟩
  | .hbm, ⟨21, _⟩ => ⟨S14x1x32x1, .f32⟩
  | .hbm, ⟨22, _⟩ => ⟨S_, .f32⟩
  | .hbm, ⟨23, _⟩ => ⟨S14x1x32x1, .f32⟩
  | .hbm, ⟨24, _⟩ => ⟨S14x1x32x1, .f32⟩
  | .hbm, ⟨25, _⟩ => ⟨S_, .f32⟩
  | .hbm, ⟨26, _⟩ => ⟨S14x1x32x1, .f32⟩
  | .hbm, ⟨27, _⟩ => ⟨S14x1x32x1, .f32⟩
  | .hbm, ⟨28, _⟩ => ⟨S14x1x32x1, .f32⟩
  | .hbm, ⟨29, _⟩ => ⟨S14x9216x32x10, .f32⟩
  | .hbm, ⟨30, _⟩ => ⟨S14x9216x32x10, .f32⟩
  | .hbm, ⟨31, _⟩ => ⟨S14x9216x320, .f32⟩
  | .hbm, ⟨32, _⟩ => ⟨S1x1x320, .f32⟩
  | .hbm, ⟨33, _⟩ => ⟨S14x9216x320, .f32⟩
  | .hbm, ⟨34, _⟩ => ⟨S14x9216x320, .f32⟩
  | .hbm, ⟨35, _⟩ => ⟨S1x1x320, .f32⟩
  | .hbm, ⟨36, _⟩ => ⟨S14x9216x320, .f32⟩
  | .hbm, ⟨37, _⟩ => ⟨S14x9216x320, .f32⟩
  | .hbm, ⟨38, _⟩ => ⟨S14x9216x320, .f32⟩
  | .hbm, ⟨39, _⟩ => ⟨S14x9216x320, .f32⟩
  | .hbm, ⟨40, _⟩ => ⟨S_, .f32⟩
  | .hbm, ⟨41, _⟩ => ⟨S14x9216x320, .f32⟩
  | .hbm, ⟨42, _⟩ => ⟨S14x9216x320, .f32⟩
  | .hbm, ⟨43, _⟩ => ⟨S_, .f32⟩
  | .hbm, ⟨44, _⟩ => ⟨S14x9216x320, .f32⟩
  | .hbm, ⟨45, _⟩ => ⟨S14x9216x320, .f32⟩
  | .hbm, ⟨46, _⟩ => ⟨S14x9216x320, .f32⟩
  | .hbm, ⟨47, _⟩ => ⟨S14x9216x320, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S14x9216x320, .f32⟩
  | .hbm, ⟨70, _⟩ => ⟨S14x9216x320, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S14x9216x320, .f32⟩
  | .hbm, ⟨75, _⟩ => ⟨S14x9216x320, .f32⟩
  | .hbm, ⟨76, _⟩ => ⟨S_, .f32⟩
  | .hbm, ⟨77, _⟩ => ⟨S14x9216x320, .f32⟩
  | .hbm, ⟨78, _⟩ => ⟨S14x9216x320, .f32⟩
  | .hbm, ⟨79, _⟩ => ⟨S14x9216x320, .fp8e4m3⟩
  | .hbm, ⟨80, _⟩ => ⟨S14x9216x320, .fp8e4m3⟩
  | .hbm, ⟨81, _⟩ => ⟨S_, .f32⟩
  | _, _ => ⟨S14x9216x320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_cst_11 : Ref sig .tc := ⟨.hbm, 61, rfl⟩
abbrev main_call0_v0 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_14 : Ref sig .tc := ⟨.hbm, 71, rfl⟩
abbrev main_cst_15 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v51 : Ref sig .tc := ⟨.hbm, 78, rfl⟩
abbrev main_v52 : Ref sig .tc := ⟨.hbm, 79, rfl⟩
abbrev main_v53_0 : Ref sig .tc := ⟨.hbm, 80, rfl⟩
abbrev main_v53_1 : Ref sig .tc := ⟨.hbm, 81, rfl⟩

abbrev nD : Nat := 1
abbrev τ : Topo := Topo.v7x

variable {F : FTy → Type} [FloatOps F]
-- ==== Proof.Stats.lean ====
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- Pixel `s`, channel `d` of a staged image block, zero outside it. -/
def px (x : FVec Ideal S1x9216x320 .bf16) (s d : ℕ) : EReal :=
  if h : s < 9216 ∧ d < 320 then x (ix3 0 ⟨s, h.1⟩ ⟨d, h.2⟩) else 0

/-- The running maximum of `a` and the first `n` values of `f`. -/
def runMax (a : EReal) (f : ℕ → EReal) : ℕ → EReal
  | 0 => a
  | n + 1 => max (runMax a f n) (f n)

/-- The running minimum of `a` and the first `n` values of `f`. -/
def runMin (a : EReal) (f : ℕ → EReal) : ℕ → EReal
  | 0 => a
  | n + 1 => min (runMin a f n) (f n)

/-- The row word of a load of the statistics loops, as a number. -/
theorem row_word (k c : ℕ) (hk : k < 36) (hc : c < 256) :
    BitVec.toNat (Scalar.indexCast (Scalar.addi (Scalar.muli (Scf.iv 0#32 1#32 k) 256#32) (BitVec.ofNat 32 c))) = 256 * k + c := by
  simp [Scalar.indexCast, Scalar.addi, Scalar.muli, Scf.iv, IntOp.addi, IntOp.muli, BitVec.toNat_add, BitVec.toNat_mul]
  omega

/-- A load of eight rows of the image block at a loop's row word, read at an index. -/
theorem ld8 (arg1 : Memref sig .tc .vmem S1x9216x320 .bf16) (X : BufTy.Contents (Elt Ideal) arg1.view.ty) (k : ℕ) (hk : k < 36) (c : ℕ) (hc : c < 249) (h) (r : Fin 8) (l : Fin 256) :
    (View.readAt (Elt Ideal) arg1.view (Rect.unit (s := S1x9216x320)
      ![0, BitVec.toNat (Scalar.indexCast (Scalar.addi (Scalar.muli (Scf.iv 0#32 1#32 k) 256#32) (BitVec.ofNat 32 c))), 0] ![1, 8, 256] h).toLoadRect X : FVec Ideal S1x8x256 .bf16) (ix3 0 r l)
      = px (arg1.view.read (Elt Ideal) X) (256 * k + c + r.val) l.val := by
  have hw := row_word k c hk (by omega)
  unfold px
  rw [dif_pos ⟨by omega, by omega⟩, View.readAt_eq_ld]
  refine View.ld_unit_apply_of _ _ _ _ _ _ fun a => ?_
  fin_cases a
  · simp
  · simp [hw]
  · simp

/-- A load of sixteen rows of the last 64 channels of the image block, read at an index. -/
theorem ld16 (arg1 : Memref sig .tc .vmem S1x9216x320 .bf16) (X : BufTy.Contents (Elt Ideal) arg1.view.ty) (k : ℕ) (hk : k < 36) (c : ℕ) (hc : c < 241) (h) (r : Fin 16) (l : Fin 64) :
    (View.readAt (Elt Ideal) arg1.view (Rect.unit (s := S1x9216x320)
      ![0, BitVec.toNat (Scalar.indexCast (Scalar.addi (Scalar.muli (Scf.iv 0#32 1#32 k) 256#32) (BitVec.ofNat 32 c))), 256] ![1, 16, 64] h).toLoadRect X : FVec Ideal S1x16x64 .bf16) (ix3 0 r l)
      = px (arg1.view.read (Elt Ideal) X) (256 * k + c + r.val) (256 + l.val) := by
  have hw := row_word k c hk (by omega)
  unfold px
  rw [dif_pos ⟨by omega, by omega⟩, View.readAt_eq_ld]
  refine View.ld_unit_apply_of _ _ _ _ _ _ fun a => ?_
  fin_cases a
  · simp
  · simp [hw]
  · simp

/-- The running maximum is at least its start. -/
theorem le_runMax (a : EReal) (f : ℕ → EReal) (n : ℕ) : a ≤ runMax a f n := by
  induction n with
  | zero => exact le_rfl
  | succ n ih => exact ih.trans (le_max_left _ _)

/-- The running maximum is at least every value it has met. -/
theorem val_le_runMax (a : EReal) (f : ℕ → EReal) (n j : ℕ) (hj : j < n) : f j ≤ runMax a f n := by
  induction n with
  | zero => omega
  | succ n ih =>
    rcases Nat.lt_succ_iff_lt_or_eq.1 hj with h | h
    · exact (ih h).trans (le_max_left _ _)
    · subst h; exact le_max_right _ _

/-- The running maximum is its start or a value it has met. -/
theorem runMax_mem (a : EReal) (f : ℕ → EReal) (n : ℕ) : runMax a f n = a ∨ ∃ j < n, runMax a f n = f j := by
  induction n with
  | zero => exact Or.inl rfl
  | succ n ih =>
    rcases max_choice (runMax a f n) (f n) with h | h
    · rcases ih with ih | ⟨j, hj, ih⟩
      · exact Or.inl (h.trans ih)
      · exact Or.inr ⟨j, by omega, h.trans ih⟩
    · exact Or.inr ⟨n, by omega, h⟩

/-- The running minimum is at most its start. -/
theorem runMin_le (a : EReal) (f : ℕ → EReal) (n : ℕ) : runMin a f n ≤ a := by
  induction n with
  | zero => exact le_rfl
  | succ n ih => exact (min_le_left _ _).trans ih

/-- The running minimum is at most every value it has met. -/
theorem runMin_le_val (a : EReal) (f : ℕ → EReal) (n j : ℕ) (hj : j < n) : runMin a f n ≤ f j := by
  induction n with
  | zero => omega
  | succ n ih =>
    rcases Nat.lt_succ_iff_lt_or_eq.1 hj with h | h
    · exact (min_le_left _ _).trans (ih h)
    · subst h; exact min_le_right _ _

/-- The running minimum is its start or a value it has met. -/
theorem runMin_mem (a : EReal) (f : ℕ → EReal) (n : ℕ) : runMin a f n = a ∨ ∃ j < n, runMin a f n = f j := by
  induction n with
  | zero => exact Or.inl rfl
  | succ n ih =>
    rcases min_choice (runMin a f n) (f n) with h | h
    · rcases ih with ih | ⟨j, hj, ih⟩
      · exact Or.inl (h.trans ih)
      · exact Or.inr ⟨j, by omega, h.trans ih⟩
    · exact Or.inr ⟨n, by omega, h⟩

/-- A sum over a product range, tile by tile. -/
theorem sum_range_tiles (f : ℕ → EReal) (a b : ℕ) :
    ∑ s ∈ Finset.range (b * a), f s = ∑ i ∈ Finset.range a, ∑ j ∈ Finset.range b, f (b * i + j) := by
  induction a with
  | zero => simp
  | succ a ih => rw [Nat.mul_succ, Finset.sum_range_add, ih, Finset.sum_range_succ]

section
variable (𝒱 : Variants) (c : Dev nD) (bd : Option 𝒱.V) (i : grid0.Coords)
  (arg1 : Memref sig .tc .vmem S1x9216x320 .bf16) (harg1 : arg1.IsWhole)
  (arg2 : Memref sig .tc .vmem S1x1x320 .bf16) (harg2 : arg2.IsWhole)
  (arg3 : Memref sig .tc .vmem S1x320 .f32) (harg3 : arg3.IsWhole)
  (arg4 : Memref sig .tc .vmem S1x320 .f32) (harg4 : arg4.IsWhole)
  (arg5 : Memref sig .tc .vmem S320x320 .f32) (harg5 : arg5.IsWhole)
  (arg6 : Memref sig .tc .vmem S16x256 .bf16) (harg6 : arg6.IsWhole)
  (arg7 : Memref sig .tc .vmem S1x8x320 .f32) (harg7 : arg7.IsWhole)

set_option backward.isDefEq.respectTransparency false in
/-- One trip of loop 1: what it does to the carried sum, at an index. -/
theorem trip1_sum (v0 : Vec Ideal S16x256 .bf16) (h1 : ∀ r l, v0 (ix2 r l) = (1 : EReal)) (X : BufTy.Contents (Elt Ideal) arg1.view.ty) (k : Fin k0_t1_loop.trips)
    (acc : FVec Ideal S8x256 .f32 × FVec Ideal S8x256 .f32 × FVec Ideal S8x256 .bf16 × FVec Ideal S8x256 .bf16) (r : Fin 8) (l : Fin 256) :
    (tripR_k0_t1 (F := Ideal) 𝒱 c bd i arg1 harg1 arg2 harg2 arg3 harg3 arg4 harg4 arg5 harg5 arg6 harg6 arg7 harg7 v0 X k acc).1 (ix2 r l)
      = acc.1 (ix2 r l) + ∑ j ∈ Finset.range 32, px (arg1.view.read (Elt Ideal) X) (256 * k.val + 8 * j + r.val) (l.val) := by
  have hk : k.val < 36 := Nat.lt_of_lt_of_le k.isLt k0_t1_abs.2.1
  unfold tripR_k0_t1 trip_k0_t1
  dsimp only
  sl_unfold_words
  pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay143, k0_pay144, k0_pay145, k0_pay146, k0_pay147, k0_pay148, k0_pay149, k0_pay150, k0_pay151, k0_pay152, k0_pay153]
  simp (disch := norm_num) only [ld8 arg1 X k.val hk, h1, mul_one, Finset.sum_range_succ, Finset.sum_range_zero, zero_add, runMax, runMin, Nat.reduceMul, Nat.mul_zero, Nat.add_zero, Nat.mul_one]

set_option backward.isDefEq.respectTransparency false in
/-- One trip of loop 1: what it does to the carried sq, at an index. -/
theorem trip1_sq (v0 : Vec Ideal S16x256 .bf16) (h1 : ∀ r l, v0 (ix2 r l) = (1 : EReal)) (X : BufTy.Contents (Elt Ideal) arg1.view.ty) (k : Fin k0_t1_loop.trips)
    (acc : FVec Ideal S8x256 .f32 × FVec Ideal S8x256 .f32 × FVec Ideal S8x256 .bf16 × FVec Ideal S8x256 .bf16) (r : Fin 8) (l : Fin 256) :
    (tripR_k0_t1 (F := Ideal) 𝒱 c bd i arg1 harg1 arg2 harg2 arg3 harg3 arg4 harg4 arg5 harg5 arg6 harg6 arg7 harg7 v0 X k acc).2.1 (ix2 r l)
      = acc.2.1 (ix2 r l) + ∑ j ∈ Finset.range 32, px (arg1.view.read (Elt Ideal) X) (256 * k.val + 8 * j + r.val) (l.val) * px (arg1.view.read (Elt Ideal) X) (256 * k.val + 8 * j + r.val) (l.val) := by
  have hk : k.val < 36 := Nat.lt_of_lt_of_le k.isLt k0_t1_abs.2.1
  unfold tripR_k0_t1 trip_k0_t1
  dsimp only
  sl_unfold_words
  pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay143, k0_pay144, k0_pay145, k0_pay146, k0_pay147, k0_pay148, k0_pay149, k0_pay150, k0_pay151, k0_pay152, k0_pay153]
  simp (disch := norm_num) only [ld8 arg1 X k.val hk, h1, mul_one, Finset.sum_range_succ, Finset.sum_range_zero, zero_add, runMax, runMin, Nat.reduceMul, Nat.mul_zero, Nat.add_zero, Nat.mul_one]

set_option backward.isDefEq.respectTransparency false in
/-- One trip of loop 1: what it does to the carried max, at an index. -/
theorem trip1_max (v0 : Vec Ideal S16x256 .bf16) (h1 : ∀ r l, v0 (ix2 r l) = (1 : EReal)) (X : BufTy.Contents (Elt Ideal) arg1.view.ty) (k : Fin k0_t1_loop.trips)
    (acc : FVec Ideal S8x256 .f32 × FVec Ideal S8x256 .f32 × FVec Ideal S8x256 .bf16 × FVec Ideal S8x256 .bf16) (r : Fin 8) (l : Fin 256) :
    (tripR_k0_t1 (F := Ideal) 𝒱 c bd i arg1 harg1 arg2 harg2 arg3 harg3 arg4 harg4 arg5 harg5 arg6 harg6 arg7 harg7 v0 X k acc).2.2.1 (ix2 r l)
      = runMax (acc.2.2.1 (ix2 r l)) (fun j => px (arg1.view.read (Elt Ideal) X) (256 * k.val + 8 * j + r.val) (l.val)) 32 := by
  have hk : k.val < 36 := Nat.lt_of_lt_of_le k.isLt k0_t1_abs.2.1
  unfold tripR_k0_t1 trip_k0_t1
  dsimp only
  sl_unfold_words
  pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay143, k0_pay144, k0_pay145, k0_pay146, k0_pay147, k0_pay148, k0_pay149, k0_pay150, k0_pay151, k0_pay152, k0_pay153]
  simp (disch := norm_num) only [ld8 arg1 X k.val hk, h1, mul_one, Finset.sum_range_succ, Finset.sum_range_zero, zero_add, runMax, runMin, Nat.reduceMul, Nat.mul_zero, Nat.add_zero, Nat.mul_one]

set_option backward.isDefEq.respectTransparency false in
/-- One trip of loop 1: what it does to the carried min, at an index. -/
theorem trip1_min (v0 : Vec Ideal S16x256 .bf16) (h1 : ∀ r l, v0 (ix2 r l) = (1 : EReal)) (X : BufTy.Contents (Elt Ideal) arg1.view.ty) (k : Fin k0_t1_loop.trips)
    (acc : FVec Ideal S8x256 .f32 × FVec Ideal S8x256 .f32 × FVec Ideal S8x256 .bf16 × FVec Ideal S8x256 .bf16) (r : Fin 8) (l : Fin 256) :
    (tripR_k0_t1 (F := Ideal) 𝒱 c bd i arg1 harg1 arg2 harg2 arg3 harg3 arg4 harg4 arg5 harg5 arg6 harg6 arg7 harg7 v0 X k acc).2.2.2 (ix2 r l)
      = runMin (acc.2.2.2 (ix2 r l)) (fun j => px (arg1.view.read (Elt Ideal) X) (256 * k.val + 8 * j + r.val) (l.val)) 32 := by
  have hk : k.val < 36 := Nat.lt_of_lt_of_le k.isLt k0_t1_abs.2.1
  unfold tripR_k0_t1 trip_k0_t1
  dsimp only
  sl_unfold_words
  pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay143, k0_pay144, k0_pay145, k0_pay146, k0_pay147, k0_pay148, k0_pay149, k0_pay150, k0_pay151, k0_pay152, k0_pay153]
  simp (disch := norm_num) only [ld8 arg1 X k.val hk, h1, mul_one, Finset.sum_range_succ, Finset.sum_range_zero, zero_add, runMax, runMin, Nat.reduceMul, Nat.mul_zero, Nat.add_zero, Nat.mul_one]

set_option backward.isDefEq.respectTransparency false in
/-- One trip of loop 2: what it does to the carried sum, at an index. -/
theorem trip2_sum (v0 : Vec Ideal S16x256 .bf16) (h1 : ∀ r l, v0 (ix2 r l) = (1 : EReal)) (X : BufTy.Contents (Elt Ideal) arg1.view.ty) (k : Fin k0_t2_loop.trips)
    (acc : FVec Ideal S16x64 .f32 × FVec Ideal S16x64 .f32 × FVec Ideal S16x64 .bf16 × FVec Ideal S16x64 .bf16) (r : Fin 16) (l : Fin 64) :
    (tripR_k0_t2 (F := Ideal) 𝒱 c bd i arg1 harg1 arg2 harg2 arg3 harg3 arg4 harg4 arg5 harg5 arg6 harg6 arg7 harg7 v0 X k acc).1 (ix2 r l)
      = acc.1 (ix2 r l) + ∑ j ∈ Finset.range 16, px (arg1.view.read (Elt Ideal) X) (256 * k.val + 16 * j + r.val) (256 + l.val) := by
  have hk : k.val < 36 := Nat.lt_of_lt_of_le k.isLt k0_t2_abs.2.1
  unfold tripR_k0_t2 trip_k0_t2
  dsimp only
  sl_unfold_words
  pointwise [k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay160, k0_pay161, k0_pay162, k0_pay163, k0_pay164, k0_pay165]
  simp (disch := norm_num) only [ld16 arg1 X k.val hk, h1, mul_one, Finset.sum_range_succ, Finset.sum_range_zero, zero_add, runMax, runMin, Nat.reduceMul, Nat.mul_zero, Nat.add_zero, Nat.mul_one]

set_option backward.isDefEq.respectTransparency false in
/-- One trip of loop 2: what it does to the carried sq, at an index. -/
theorem trip2_sq (v0 : Vec Ideal S16x256 .bf16) (h1 : ∀ r l, v0 (ix2 r l) = (1 : EReal)) (X : BufTy.Contents (Elt Ideal) arg1.view.ty) (k : Fin k0_t2_loop.trips)
    (acc : FVec Ideal S16x64 .f32 × FVec Ideal S16x64 .f32 × FVec Ideal S16x64 .bf16 × FVec Ideal S16x64 .bf16) (r : Fin 16) (l : Fin 64) :
    (tripR_k0_t2 (F := Ideal) 𝒱 c bd i arg1 harg1 arg2 harg2 arg3 harg3 arg4 harg4 arg5 harg5 arg6 harg6 arg7 harg7 v0 X k acc).2.1 (ix2 r l)
      = acc.2.1 (ix2 r l) + ∑ j ∈ Finset.range 16, px (arg1.view.read (Elt Ideal) X) (256 * k.val + 16 * j + r.val) (256 + l.val) * px (arg1.view.read (Elt Ideal) X) (256 * k.val + 16 * j + r.val) (256 + l.val) := by
  have hk : k.val < 36 := Nat.lt_of_lt_of_le k.isLt k0_t2_abs.2.1
  unfold tripR_k0_t2 trip_k0_t2
  dsimp only
  sl_unfold_words
  pointwise [k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay160, k0_pay161, k0_pay162, k0_pay163, k0_pay164, k0_pay165]
  simp (disch := norm_num) only [ld16 arg1 X k.val hk, h1, mul_one, Finset.sum_range_succ, Finset.sum_range_zero, zero_add, runMax, runMin, Nat.reduceMul, Nat.mul_zero, Nat.add_zero, Nat.mul_one]

set_option backward.isDefEq.respectTransparency false in
/-- One trip of loop 2: what it does to the carried max, at an index. -/
theorem trip2_max (v0 : Vec Ideal S16x256 .bf16) (h1 : ∀ r l, v0 (ix2 r l) = (1 : EReal)) (X : BufTy.Contents (Elt Ideal) arg1.view.ty) (k : Fin k0_t2_loop.trips)
    (acc : FVec Ideal S16x64 .f32 × FVec Ideal S16x64 .f32 × FVec Ideal S16x64 .bf16 × FVec Ideal S16x64 .bf16) (r : Fin 16) (l : Fin 64) :
    (tripR_k0_t2 (F := Ideal) 𝒱 c bd i arg1 harg1 arg2 harg2 arg3 harg3 arg4 harg4 arg5 harg5 arg6 harg6 arg7 harg7 v0 X k acc).2.2.1 (ix2 r l)
      = runMax (acc.2.2.1 (ix2 r l)) (fun j => px (arg1.view.read (Elt Ideal) X) (256 * k.val + 16 * j + r.val) (256 + l.val)) 16 := by
  have hk : k.val < 36 := Nat.lt_of_lt_of_le k.isLt k0_t2_abs.2.1
  unfold tripR_k0_t2 trip_k0_t2
  dsimp only
  sl_unfold_words
  pointwise [k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay160, k0_pay161, k0_pay162, k0_pay163, k0_pay164, k0_pay165]
  simp (disch := norm_num) only [ld16 arg1 X k.val hk, h1, mul_one, Finset.sum_range_succ, Finset.sum_range_zero, zero_add, runMax, runMin, Nat.reduceMul, Nat.mul_zero, Nat.add_zero, Nat.mul_one]

set_option backward.isDefEq.respectTransparency false in
/-- One trip of loop 2: what it does to the carried min, at an index. -/
theorem trip2_min (v0 : Vec Ideal S16x256 .bf16) (h1 : ∀ r l, v0 (ix2 r l) = (1 : EReal)) (X : BufTy.Contents (Elt Ideal) arg1.view.ty) (k : Fin k0_t2_loop.trips)
    (acc : FVec Ideal S16x64 .f32 × FVec Ideal S16x64 .f32 × FVec Ideal S16x64 .bf16 × FVec Ideal S16x64 .bf16) (r : Fin 16) (l : Fin 64) :
    (tripR_k0_t2 (F := Ideal) 𝒱 c bd i arg1 harg1 arg2 harg2 arg3 harg3 arg4 harg4 arg5 harg5 arg6 harg6 arg7 harg7 v0 X k acc).2.2.2 (ix2 r l)
      = runMin (acc.2.2.2 (ix2 r l)) (fun j => px (arg1.view.read (Elt Ideal) X) (256 * k.val + 16 * j + r.val) (256 + l.val)) 16 := by
  have hk : k.val < 36 := Nat.lt_of_lt_of_le k.isLt k0_t2_abs.2.1
  unfold tripR_k0_t2 trip_k0_t2
  dsimp only
  sl_unfold_words
  pointwise [k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay160, k0_pay161, k0_pay162, k0_pay163, k0_pay164, k0_pay165]
  simp (disch := norm_num) only [ld16 arg1 X k.val hk, h1, mul_one, Finset.sum_range_succ, Finset.sum_range_zero, zero_add, runMax, runMin, Nat.reduceMul, Nat.mul_zero, Nat.add_zero, Nat.mul_one]

/-- The carried sum of loop 1 before trip `k`, at an index. -/
theorem st1_sum (v0 : Vec Ideal S16x256 .bf16) (h1 : ∀ r l, v0 (ix2 r l) = (1 : EReal)) (X : BufTy.Contents (Elt Ideal) arg1.view.ty)
    (init : FVec Ideal S8x256 .f32 × FVec Ideal S8x256 .f32 × FVec Ideal S8x256 .bf16 × FVec Ideal S8x256 .bf16) (r : Fin 8) (l : Fin 256) (k : ℕ) (hk : k ≤ 36) :
    (st_k0_t1 (F := Ideal) 𝒱 c bd i arg1 harg1 arg2 harg2 arg3 harg3 arg4 harg4 arg5 harg5 arg6 harg6 arg7 harg7 v0 X init k).1 (ix2 r l) = init.1 (ix2 r l) + ∑ kk ∈ Finset.range k, ∑ j ∈ Finset.range 32, px (arg1.view.read (Elt Ideal) X) (256 * kk + 8 * j + r.val) (l.val) := by
  induction k with
  | zero => rw [st_k0_t1_zero, Finset.sum_range_zero, add_zero]
  | succ k ih =>
    have hlt : k < k0_t1_loop.trips := (show k < 36 by omega).trans_eq (by decide +kernel)
    rw [st_k0_t1_succ 𝒱 c bd i arg1 harg1 arg2 harg2 arg3 harg3 arg4 harg4 arg5 harg5 arg6 harg6 arg7 harg7 v0 X init ⟨k, hlt⟩, trip1_sum 𝒱 c bd i arg1 harg1 arg2 harg2 arg3 harg3 arg4 harg4 arg5 harg5 arg6 harg6 arg7 harg7 v0 h1, ih (by omega), Finset.sum_range_succ _ k, add_assoc]

/-- The carried sq of loop 1 before trip `k`, at an index. -/
theorem st1_sq (v0 : Vec Ideal S16x256 .bf16) (h1 : ∀ r l, v0 (ix2 r l) = (1 : EReal)) (X : BufTy.Contents (Elt Ideal) arg1.view.ty)
    (init : FVec Ideal S8x256 .f32 × FVec Ideal S8x256 .f32 × FVec Ideal S8x256 .bf16 × FVec Ideal S8x256 .bf16) (r : Fin 8) (l : Fin 256) (k : ℕ) (hk : k ≤ 36) :
    (st_k0_t1 (F := Ideal) 𝒱 c bd i arg1 harg1 arg2 harg2 arg3 harg3 arg4 harg4 arg5 harg5 arg6 harg6 arg7 harg7 v0 X init k).2.1 (ix2 r l) = init.2.1 (ix2 r l) + ∑ kk ∈ Finset.range k, ∑ j ∈ Finset.range 32, px (arg1.view.read (Elt Ideal) X) (256 * kk + 8 * j + r.val) (l.val) * px (arg1.view.read (Elt Ideal) X) (256 * kk + 8 * j + r.val) (l.val) := by
  induction k with
  | zero => rw [st_k0_t1_zero, Finset.sum_range_zero, add_zero]
  | succ k ih =>
    have hlt : k < k0_t1_loop.trips := (show k < 36 by omega).trans_eq (by decide +kernel)
    rw [st_k0_t1_succ 𝒱 c bd i arg1 harg1 arg2 harg2 arg3 harg3 arg4 harg4 arg5 harg5 arg6 harg6 arg7 harg7 v0 X init ⟨k, hlt⟩, trip1_sq 𝒱 c bd i arg1 harg1 arg2 harg2 arg3 harg3 arg4 harg4 arg5 harg5 arg6 harg6 arg7 harg7 v0 h1, ih (by omega), Finset.sum_range_succ _ k, add_assoc]

/-- The carried max of loop 1 before trip `k`: it bounds every pixel of its row class met so far, and is a pixel. -/
theorem st1_max (v0 : Vec Ideal S16x256 .bf16) (h1 : ∀ r l, v0 (ix2 r l) = (1 : EReal)) (X : BufTy.Contents (Elt Ideal) arg1.view.ty)
    (init : FVec Ideal S8x256 .f32 × FVec Ideal S8x256 .f32 × FVec Ideal S8x256 .bf16 × FVec Ideal S8x256 .bf16) (r : Fin 8) (l : Fin 256) (k : ℕ) (hk : k ≤ 36)
    (hi : ∃ s < 9216, init.2.2.1 (ix2 r l) = px (arg1.view.read (Elt Ideal) X) s (l.val)) :
    (∀ kk < k, ∀ j < 32, px (arg1.view.read (Elt Ideal) X) (256 * kk + 8 * j + r.val) (l.val) ≤ (st_k0_t1 (F := Ideal) 𝒱 c bd i arg1 harg1 arg2 harg2 arg3 harg3 arg4 harg4 arg5 harg5 arg6 harg6 arg7 harg7 v0 X init k).2.2.1 (ix2 r l)) ∧ ∃ s < 9216, (st_k0_t1 (F := Ideal) 𝒱 c bd i arg1 harg1 arg2 harg2 arg3 harg3 arg4 harg4 arg5 harg5 arg6 harg6 arg7 harg7 v0 X init k).2.2.1 (ix2 r l) = px (arg1.view.read (Elt Ideal) X) s (l.val) := by
  induction k with
  | zero => exact ⟨fun _ h => absurd h (Nat.not_lt_zero _), hi⟩
  | succ k ih =>
    have hlt : k < k0_t1_loop.trips := (show k < 36 by omega).trans_eq (by decide +kernel)
    obtain ⟨ih1, ih2⟩ := ih (by omega)
    rw [st_k0_t1_succ 𝒱 c bd i arg1 harg1 arg2 harg2 arg3 harg3 arg4 harg4 arg5 harg5 arg6 harg6 arg7 harg7 v0 X init ⟨k, hlt⟩, trip1_max 𝒱 c bd i arg1 harg1 arg2 harg2 arg3 harg3 arg4 harg4 arg5 harg5 arg6 harg6 arg7 harg7 v0 h1]
    constructor
    · intro kk hkk j hj
      rcases Nat.lt_succ_iff_lt_or_eq.1 hkk with h | h
      · exact (ih1 kk h j hj).trans (le_runMax _ _ _)
      · subst h
        exact val_le_runMax _ (fun j => px (arg1.view.read (Elt Ideal) X) (256 * kk + 8 * j + r.val) (l.val)) _ j hj
    · rcases runMax_mem ((st_k0_t1 (F := Ideal) 𝒱 c bd i arg1 harg1 arg2 harg2 arg3 harg3 arg4 harg4 arg5 harg5 arg6 harg6 arg7 harg7 v0 X init k).2.2.1 (ix2 r l)) (fun j => px (arg1.view.read (Elt Ideal) X) (256 * k + 8 * j + r.val) (l.val)) 32 with h | ⟨j, hj, h⟩
      · obtain ⟨s, hs, e⟩ := ih2
        exact ⟨s, hs, h.trans e⟩
      · exact ⟨256 * k + 8 * j + r.val, by omega, h⟩

/-- The carried min of loop 1 before trip `k`: it bounds every pixel of its row class met so far, and is a pixel. -/
theorem st1_min (v0 : Vec Ideal S16x256 .bf16) (h1 : ∀ r l, v0 (ix2 r l) = (1 : EReal)) (X : BufTy.Contents (Elt Ideal) arg1.view.ty)
    (init : FVec Ideal S8x256 .f32 × FVec Ideal S8x256 .f32 × FVec Ideal S8x256 .bf16 × FVec Ideal S8x256 .bf16) (r : Fin 8) (l : Fin 256) (k : ℕ) (hk : k ≤ 36)
    (hi : ∃ s < 9216, init.2.2.2 (ix2 r l) = px (arg1.view.read (Elt Ideal) X) s (l.val)) :
    (∀ kk < k, ∀ j < 32, (st_k0_t1 (F := Ideal) 𝒱 c bd i arg1 harg1 arg2 harg2 arg3 harg3 arg4 harg4 arg5 harg5 arg6 harg6 arg7 harg7 v0 X init k).2.2.2 (ix2 r l) ≤ px (arg1.view.read (Elt Ideal) X) (256 * kk + 8 * j + r.val) (l.val)) ∧ ∃ s < 9216, (st_k0_t1 (F := Ideal) 𝒱 c bd i arg1 harg1 arg2 harg2 arg3 harg3 arg4 harg4 arg5 harg5 arg6 harg6 arg7 harg7 v0 X init k).2.2.2 (ix2 r l) = px (arg1.view.read (Elt Ideal) X) s (l.val) := by
  induction k with
  | zero => exact ⟨fun _ h => absurd h (Nat.not_lt_zero _), hi⟩
  | succ k ih =>
    have hlt : k < k0_t1_loop.trips := (show k < 36 by omega).trans_eq (by decide +kernel)
    obtain ⟨ih1, ih2⟩ := ih (by omega)
    rw [st_k0_t1_succ 𝒱 c bd i arg1 harg1 arg2 harg2 arg3 harg3 arg4 harg4 arg5 harg5 arg6 harg6 arg7 harg7 v0 X init ⟨k, hlt⟩, trip1_min 𝒱 c bd i arg1 harg1 arg2 harg2 arg3 harg3 arg4 harg4 arg5 harg5 arg6 harg6 arg7 harg7 v0 h1]
    constructor
    · intro kk hkk j hj
      rcases Nat.lt_succ_iff_lt_or_eq.1 hkk with h | h
      · exact (runMin_le _ _ _).trans (ih1 kk h j hj)
      · subst h
        exact runMin_le_val _ (fun j => px (arg1.view.read (Elt Ideal) X) (256 * kk + 8 * j + r.val) (l.val)) _ j hj
    · rcases runMin_mem ((st_k0_t1 (F := Ideal) 𝒱 c bd i arg1 harg1 arg2 harg2 arg3 harg3 arg4 harg4 arg5 harg5 arg6 harg6 arg7 harg7 v0 X init k).2.2.2 (ix2 r l)) (fun j => px (arg1.view.read (Elt Ideal) X) (256 * k + 8 * j + r.val) (l.val)) 32 with h | ⟨j, hj, h⟩
      · obtain ⟨s, hs, e⟩ := ih2
        exact ⟨s, hs, h.trans e⟩
      · exact ⟨256 * k + 8 * j + r.val, by omega, h⟩

/-- The carried sum of loop 2 before trip `k`, at an index. -/
theorem st2_sum (v0 : Vec Ideal S16x256 .bf16) (h1 : ∀ r l, v0 (ix2 r l) = (1 : EReal)) (X : BufTy.Contents (Elt Ideal) arg1.view.ty)
    (init : FVec Ideal S16x64 .f32 × FVec Ideal S16x64 .f32 × FVec Ideal S16x64 .bf16 × FVec Ideal S16x64 .bf16) (r : Fin 16) (l : Fin 64) (k : ℕ) (hk : k ≤ 36) :
    (st_k0_t2 (F := Ideal) 𝒱 c bd i arg1 harg1 arg2 harg2 arg3 harg3 arg4 harg4 arg5 harg5 arg6 harg6 arg7 harg7 v0 X init k).1 (ix2 r l) = init.1 (ix2 r l) + ∑ kk ∈ Finset.range k, ∑ j ∈ Finset.range 16, px (arg1.view.read (Elt Ideal) X) (256 * kk + 16 * j + r.val) (256 + l.val) := by
  induction k with
  | zero => rw [st_k0_t2_zero, Finset.sum_range_zero, add_zero]
  | succ k ih =>
    have hlt : k < k0_t2_loop.trips := (show k < 36 by omega).trans_eq (by decide +kernel)
    rw [st_k0_t2_succ 𝒱 c bd i arg1 harg1 arg2 harg2 arg3 harg3 arg4 harg4 arg5 harg5 arg6 harg6 arg7 harg7 v0 X init ⟨k, hlt⟩, trip2_sum 𝒱 c bd i arg1 harg1 arg2 harg2 arg3 harg3 arg4 harg4 arg5 harg5 arg6 harg6 arg7 harg7 v0 h1, ih (by omega), Finset.sum_range_succ _ k, add_assoc]

/-- The carried sq of loop 2 before trip `k`, at an index. -/
theorem st2_sq (v0 : Vec Ideal S16x256 .bf16) (h1 : ∀ r l, v0 (ix2 r l) = (1 : EReal)) (X : BufTy.Contents (Elt Ideal) arg1.view.ty)
    (init : FVec Ideal S16x64 .f32 × FVec Ideal S16x64 .f32 × FVec Ideal S16x64 .bf16 × FVec Ideal S16x64 .bf16) (r : Fin 16) (l : Fin 64) (k : ℕ) (hk : k ≤ 36) :
    (st_k0_t2 (F := Ideal) 𝒱 c bd i arg1 harg1 arg2 harg2 arg3 harg3 arg4 harg4 arg5 harg5 arg6 harg6 arg7 harg7 v0 X init k).2.1 (ix2 r l) = init.2.1 (ix2 r l) + ∑ kk ∈ Finset.range k, ∑ j ∈ Finset.range 16, px (arg1.view.read (Elt Ideal) X) (256 * kk + 16 * j + r.val) (256 + l.val) * px (arg1.view.read (Elt Ideal) X) (256 * kk + 16 * j + r.val) (256 + l.val) := by
  induction k with
  | zero => rw [st_k0_t2_zero, Finset.sum_range_zero, add_zero]
  | succ k ih =>
    have hlt : k < k0_t2_loop.trips := (show k < 36 by omega).trans_eq (by decide +kernel)
    rw [st_k0_t2_succ 𝒱 c bd i arg1 harg1 arg2 harg2 arg3 harg3 arg4 harg4 arg5 harg5 arg6 harg6 arg7 harg7 v0 X init ⟨k, hlt⟩, trip2_sq 𝒱 c bd i arg1 harg1 arg2 harg2 arg3 harg3 arg4 harg4 arg5 harg5 arg6 harg6 arg7 harg7 v0 h1, ih (by omega), Finset.sum_range_succ _ k, add_assoc]

/-- The carried max of loop 2 before trip `k`: it bounds every pixel of its row class met so far, and is a pixel. -/
theorem st2_max (v0 : Vec Ideal S16x256 .bf16) (h1 : ∀ r l, v0 (ix2 r l) = (1 : EReal)) (X : BufTy.Contents (Elt Ideal) arg1.view.ty)
    (init : FVec Ideal S16x64 .f32 × FVec Ideal S16x64 .f32 × FVec Ideal S16x64 .bf16 × FVec Ideal S16x64 .bf16) (r : Fin 16) (l : Fin 64) (k : ℕ) (hk : k ≤ 36)
    (hi : ∃ s < 9216, init.2.2.1 (ix2 r l) = px (arg1.view.read (Elt Ideal) X) s (256 + l.val)) :
    (∀ kk < k, ∀ j < 16, px (arg1.view.read (Elt Ideal) X) (256 * kk + 16 * j + r.val) (256 + l.val) ≤ (st_k0_t2 (F := Ideal) 𝒱 c bd i arg1 harg1 arg2 harg2 arg3 harg3 arg4 harg4 arg5 harg5 arg6 harg6 arg7 harg7 v0 X init k).2.2.1 (ix2 r l)) ∧ ∃ s < 9216, (st_k0_t2 (F := Ideal) 𝒱 c bd i arg1 harg1 arg2 harg2 arg3 harg3 arg4 harg4 arg5 harg5 arg6 harg6 arg7 harg7 v0 X init k).2.2.1 (ix2 r l) = px (arg1.view.read (Elt Ideal) X) s (256 + l.val) := by
  induction k with
  | zero => exact ⟨fun _ h => absurd h (Nat.not_lt_zero _), hi⟩
  | succ k ih =>
    have hlt : k < k0_t2_loop.trips := (show k < 36 by omega).trans_eq (by decide +kernel)
    obtain ⟨ih1, ih2⟩ := ih (by omega)
    rw [st_k0_t2_succ 𝒱 c bd i arg1 harg1 arg2 harg2 arg3 harg3 arg4 harg4 arg5 harg5 arg6 harg6 arg7 harg7 v0 X init ⟨k, hlt⟩, trip2_max 𝒱 c bd i arg1 harg1 arg2 harg2 arg3 harg3 arg4 harg4 arg5 harg5 arg6 harg6 arg7 harg7 v0 h1]
    constructor
    · intro kk hkk j hj
      rcases Nat.lt_succ_iff_lt_or_eq.1 hkk with h | h
      · exact (ih1 kk h j hj).trans (le_runMax _ _ _)
      · subst h
        exact val_le_runMax _ (fun j => px (arg1.view.read (Elt Ideal) X) (256 * kk + 16 * j + r.val) (256 + l.val)) _ j hj
    · rcases runMax_mem ((st_k0_t2 (F := Ideal) 𝒱 c bd i arg1 harg1 arg2 harg2 arg3 harg3 arg4 harg4 arg5 harg5 arg6 harg6 arg7 harg7 v0 X init k).2.2.1 (ix2 r l)) (fun j => px (arg1.view.read (Elt Ideal) X) (256 * k + 16 * j + r.val) (256 + l.val)) 16 with h | ⟨j, hj, h⟩
      · obtain ⟨s, hs, e⟩ := ih2
        exact ⟨s, hs, h.trans e⟩
      · exact ⟨256 * k + 16 * j + r.val, by omega, h⟩

/-- The carried min of loop 2 before trip `k`: it bounds every pixel of its row class met so far, and is a pixel. -/
theorem st2_min (v0 : Vec Ideal S16x256 .bf16) (h1 : ∀ r l, v0 (ix2 r l) = (1 : EReal)) (X : BufTy.Contents (Elt Ideal) arg1.view.ty)
    (init : FVec Ideal S16x64 .f32 × FVec Ideal S16x64 .f32 × FVec Ideal S16x64 .bf16 × FVec Ideal S16x64 .bf16) (r : Fin 16) (l : Fin 64) (k : ℕ) (hk : k ≤ 36)
    (hi : ∃ s < 9216, init.2.2.2 (ix2 r l) = px (arg1.view.read (Elt Ideal) X) s (256 + l.val)) :
    (∀ kk < k, ∀ j < 16, (st_k0_t2 (F := Ideal) 𝒱 c bd i arg1 harg1 arg2 harg2 arg3 harg3 arg4 harg4 arg5 harg5 arg6 harg6 arg7 harg7 v0 X init k).2.2.2 (ix2 r l) ≤ px (arg1.view.read (Elt Ideal) X) (256 * kk + 16 * j + r.val) (256 + l.val)) ∧ ∃ s < 9216, (st_k0_t2 (F := Ideal) 𝒱 c bd i arg1 harg1 arg2 harg2 arg3 harg3 arg4 harg4 arg5 harg5 arg6 harg6 arg7 harg7 v0 X init k).2.2.2 (ix2 r l) = px (arg1.view.read (Elt Ideal) X) s (256 + l.val) := by
  induction k with
  | zero => exact ⟨fun _ h => absurd h (Nat.not_lt_zero _), hi⟩
  | succ k ih =>
    have hlt : k < k0_t2_loop.trips := (show k < 36 by omega).trans_eq (by decide +kernel)
    obtain ⟨ih1, ih2⟩ := ih (by omega)
    rw [st_k0_t2_succ 𝒱 c bd i arg1 harg1 arg2 harg2 arg3 harg3 arg4 harg4 arg5 harg5 arg6 harg6 arg7 harg7 v0 X init ⟨k, hlt⟩, trip2_min 𝒱 c bd i arg1 harg1 arg2 harg2 arg3 harg3 arg4 harg4 arg5 harg5 arg6 harg6 arg7 harg7 v0 h1]
    constructor
    · intro kk hkk j hj
      rcases Nat.lt_succ_iff_lt_or_eq.1 hkk with h | h
      · exact (runMin_le _ _ _).trans (ih1 kk h j hj)
      · subst h
        exact runMin_le_val _ (fun j => px (arg1.view.read (Elt Ideal) X) (256 * kk + 16 * j + r.val) (256 + l.val)) _ j hj
    · rcases runMin_mem ((st_k0_t2 (F := Ideal) 𝒱 c bd i arg1 harg1 arg2 harg2 arg3 harg3 arg4 harg4 arg5 harg5 arg6 harg6 arg7 harg7 v0 X init k).2.2.2 (ix2 r l)) (fun j => px (arg1.view.read (Elt Ideal) X) (256 * k + 16 * j + r.val) (256 + l.val)) 16 with h | ⟨j, hj, h⟩
      · obtain ⟨s, hs, e⟩ := ih2
        exact ⟨s, hs, h.trans e⟩
      · exact ⟨256 * k + 16 * j + r.val, by omega, h⟩

end

end Cert.KernelIdeal.Value
-- ==== Proof.Reduce.lean ====
module

public import proofs.«01_k».proof.Proof.Stats

@[expose] public section

set_option maxRecDepth 16384

noncomputable section

namespace Cert.KernelIdeal.Value

open Idealize.ShloMosaic Idealize.ShloMosaic.TcCoe Idealize.SL.Sem
open Cert.KernelIdeal Cert.KernelIdeal.Gen

/-- `m` is the largest of the first `n` values of `f`. -/
def TopOf (m : EReal) (f : ℕ → EReal) (n : ℕ) : Prop := (∀ s < n, f s ≤ m) ∧ ∃ s < n, m = f s

/-- `m` is the smallest of the first `n` values of `f`. -/
def BotOf (m : EReal) (f : ℕ → EReal) (n : ℕ) : Prop := (∀ s < n, m ≤ f s) ∧ ∃ s < n, m = f s

/-- A maximum over the rows of a column: a bound, and one of the values. -/
theorem fold_max_spec {n : ℕ} (v : Fin (n + 1) → EReal) :
    (∀ r, v r ≤ Finset.univ.fold max ⊥ v) ∧ ∃ r, Finset.univ.fold max ⊥ v = v r := by
  have e : Finset.univ.fold max ⊥ v = Finset.univ.sup v := rfl
  rw [e]
  refine ⟨fun r => Finset.le_sup (f := v) (Finset.mem_univ r), ?_⟩
  obtain ⟨r, -, h⟩ := Finset.exists_mem_eq_sup Finset.univ Finset.univ_nonempty v
  exact ⟨r, h⟩

/-- A minimum over the rows of a column: a bound, and one of the values. -/
theorem fold_min_spec {n : ℕ} (v : Fin (n + 1) → EReal) :
    (∀ r, Finset.univ.fold min ⊤ v ≤ v r) ∧ ∃ r, Finset.univ.fold min ⊤ v = v r := by
  have e : Finset.univ.fold min ⊤ v = Finset.univ.inf v := rfl
  rw [e]
  refine ⟨fun r => Finset.inf_le (f := v) (Finset.mem_univ r), ?_⟩
  obtain ⟨r, -, h⟩ := Finset.exists_mem_eq_inf Finset.univ Finset.univ_nonempty v
  exact ⟨r, h⟩

/-- The f32 pattern of minus infinity. -/
theorem bits_neg_inf : Ideal.ofBits .f32 0xFF800000#32 = ⊥ := by simp [Ideal.ofBits, Ideal.ieee]

/-- The f32 pattern of plus infinity. -/
theorem bits_pos_inf : Ideal.ofBits .f32 0x7F800000#32 = ⊤ := by simp [Ideal.ofBits, Ideal.ieee]

/-- The sums of eight row classes are the sum over all pixels. -/
theorem sum_rows8 (f : ℕ → EReal) :
    ∑ r : Fin 8, ∑ kk ∈ Finset.range 36, ∑ j ∈ Finset.range 32, f (256 * kk + 8 * j + r.val) = ∑ s ∈ Finset.range 9216, f s := by
  rw [Finset.sum_comm, show (9216 : ℕ) = 256 * 36 from rfl, sum_range_tiles f 36 256]
  refine Finset.sum_congr rfl fun kk _ => ?_
  rw [Finset.sum_comm, show (256 : ℕ) = 8 * 32 from rfl, sum_range_tiles _ 32 8]
  refine Finset.sum_congr rfl fun j _ => ?_
  rw [Finset.sum_range]
  simp only [Nat.add_assoc, Nat.reduceMul]

/-- The sums of sixteen row classes are the sum over all pixels. -/
theorem sum_rows16 (f : ℕ → EReal) :
    ∑ r : Fin 16, ∑ kk ∈ Finset.range 36, ∑ j ∈ Finset.range 16, f (256 * kk + 16 * j + r.val) = ∑ s ∈ Finset.range 9216, f s := by
  rw [Finset.sum_comm, show (9216 : ℕ) = 256 * 36 from rfl, sum_range_tiles f 36 256]
  refine Finset.sum_congr rfl fun kk _ => ?_
  rw [Finset.sum_comm, show (256 : ℕ) = 16 * 16 from rfl, sum_range_tiles _ 16 16]
  refine Finset.sum_congr rfl fun j _ => ?_
  rw [Finset.sum_range]
  simp only [Nat.add_assoc, Nat.reduceMul]

section
variable (𝒱 : Variants) (c : Dev nD) (bd : Option 𝒱.V) (i : grid0.Coords)
  (arg1 : Memref sig .tc .vmem S1x9216x320 .bf16) (harg1 : arg1.IsWhole)
  (arg2 : Memref sig .tc .vmem S1x1x320 .bf16) (harg2 : arg2.IsWhole)
  (arg3 : Memref sig .tc .vmem S1x320 .f32) (harg3 : arg3.IsWhole)
  (arg4 : Memref sig .tc .vmem S1x320 .f32) (harg4 : arg4.IsWhole)
  (arg5 : Memref sig .tc .vmem S320x320 .f32) (harg5 : arg5.IsWhole)
  (arg6 : Memref sig .tc .vmem S16x256 .bf16) (harg6 : arg6.IsWhole)
  (arg7 : Memref sig .tc .vmem S1x8x320 .f32) (harg7 : arg7.IsWhole)

/-- The sum of a channel over all pixels, as loop 1 leaves it reduced over its rows. -/
theorem red1_sum (x0 : Vec Ideal S1x9216x320 .bf16) (x5 : Vec Ideal S16x256 .bf16) (h5 : ∀ r l, x5 (ix2 r l) = (1 : EReal)) (l : Fin 256) :
    k0_pay154 (st_k0_t1 (F := Ideal) 𝒱 c bd i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).1 (ix2 0 l) = ∑ s ∈ Finset.range 9216, px x0 s (l.val) := by
  have ht : (Scf.trips (0#32) (Scalar.addi 0#32 36#32) 1#32) = 36 := by decide +kernel
  pointwise [k0_pay154, ht]
  rw [← sum_rows8 (fun s => px x0 s (l.val))]
  refine Finset.sum_congr rfl fun r _ => ?_
  rw [st1_sum 𝒱 c bd i arg1 harg1 arg2 harg2 arg3 harg3 arg4 harg4 arg5 harg5 arg6 harg6 arg7 harg7 x5 h5 _ _ _ _ _ le_rfl]
  pointwise [k0_pay145, harg1.read_unread]

/-- The sq of a channel over all pixels, as loop 1 leaves it reduced over its rows. -/
theorem red1_sq (x0 : Vec Ideal S1x9216x320 .bf16) (x5 : Vec Ideal S16x256 .bf16) (h5 : ∀ r l, x5 (ix2 r l) = (1 : EReal)) (l : Fin 256) :
    k0_pay155 (st_k0_t1 (F := Ideal) 𝒱 c bd i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.1 (ix2 0 l) = ∑ s ∈ Finset.range 9216, px x0 s (l.val) * px x0 s (l.val) := by
  have ht : (Scf.trips (0#32) (Scalar.addi 0#32 36#32) 1#32) = 36 := by decide +kernel
  pointwise [k0_pay155, ht]
  rw [← sum_rows8 (fun s => px x0 s (l.val) * px x0 s (l.val))]
  refine Finset.sum_congr rfl fun r _ => ?_
  rw [st1_sq 𝒱 c bd i arg1 harg1 arg2 harg2 arg3 harg3 arg4 harg4 arg5 harg5 arg6 harg6 arg7 harg7 x5 h5 _ _ _ _ _ le_rfl]
  pointwise [k0_pay145, harg1.read_unread]

/-- The max of a channel over all pixels, as loop 1 leaves it reduced over its rows. -/
theorem red1_max (x0 : Vec Ideal S1x9216x320 .bf16) (x5 : Vec Ideal S16x256 .bf16) (h5 : ∀ r l, x5 (ix2 r l) = (1 : EReal)) (l : Fin 256) :
    TopOf (k0_pay156 (st_k0_t1 (F := Ideal) 𝒱 c bd i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.2.1 (ix2 0 l)) (fun s => px x0 s (l.val)) 9216 := by
  have ht : (Scf.trips (0#32) (Scalar.addi 0#32 36#32) 1#32) = 36 := by decide +kernel
  pointwise [k0_pay156, ht, bits_neg_inf]
  obtain ⟨hb, r, hr⟩ := fold_max_spec (fun r : Fin 8 => (st_k0_t1 (F := Ideal) 𝒱 c bd i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) 36).2.2.1 (ix2 r l))
  have hi : ∀ r : Fin 8, ∃ s < 9216, (k0_pay144 (View.ld x0 (Rect.unit ![0, 0, 0] ![1, 8, 256] inb_S1x9216x320_S1x8x256_0_0_0)) : FVec Ideal S8x256 .bf16) (ix2 r l) = px (arg1.view.read (Elt Ideal) (harg1.unread x0)) s (l.val) := by
    intro r
    refine ⟨r.val, by omega, ?_⟩
    pointwise [k0_pay144, harg1.read_unread]
    unfold px
    rw [dif_pos ⟨by omega, by omega⟩]
  have hs := fun r => st1_max 𝒱 c bd i arg1 harg1 arg2 harg2 arg3 harg3 arg4 harg4 arg5 harg5 arg6 harg6 arg7 harg7 x5 h5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) r l 36 le_rfl (hi r)
  simp only [harg1.read_unread] at hs
  constructor
  · intro s hs'
    have := (hs ⟨s % 8, Nat.mod_lt _ (by norm_num)⟩).1 (s / 256) (by omega) (s % 256 / 8) (by omega)
    rw [show 256 * (s / 256) + 8 * (s % 256 / 8) + s % 8 = s by omega] at this
    exact this.trans (hb _)
  · obtain ⟨s, hs', e⟩ := (hs r).2
    exact ⟨s, hs', hr.trans e⟩

/-- The min of a channel over all pixels, as loop 1 leaves it reduced over its rows. -/
theorem red1_min (x0 : Vec Ideal S1x9216x320 .bf16) (x5 : Vec Ideal S16x256 .bf16) (h5 : ∀ r l, x5 (ix2 r l) = (1 : EReal)) (l : Fin 256) :
    BotOf (k0_pay157 (st_k0_t1 (F := Ideal) 𝒱 c bd i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.2.2 (ix2 0 l)) (fun s => px x0 s (l.val)) 9216 := by
  have ht : (Scf.trips (0#32) (Scalar.addi 0#32 36#32) 1#32) = 36 := by decide +kernel
  pointwise [k0_pay157, ht, bits_pos_inf]
  obtain ⟨hb, r, hr⟩ := fold_min_spec (fun r : Fin 8 => (st_k0_t1 (F := Ideal) 𝒱 c bd i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) 36).2.2.2 (ix2 r l))
  have hi : ∀ r : Fin 8, ∃ s < 9216, (k0_pay144 (View.ld x0 (Rect.unit ![0, 0, 0] ![1, 8, 256] inb_S1x9216x320_S1x8x256_0_0_0)) : FVec Ideal S8x256 .bf16) (ix2 r l) = px (arg1.view.read (Elt Ideal) (harg1.unread x0)) s (l.val) := by
    intro r
    refine ⟨r.val, by omega, ?_⟩
    pointwise [k0_pay144, harg1.read_unread]
    unfold px
    rw [dif_pos ⟨by omega, by omega⟩]
  have hs := fun r => st1_min 𝒱 c bd i arg1 harg1 arg2 harg2 arg3 harg3 arg4 harg4 arg5 harg5 arg6 harg6 arg7 harg7 x5 h5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) r l 36 le_rfl (hi r)
  simp only [harg1.read_unread] at hs
  constructor
  · intro s hs'
    have := (hs ⟨s % 8, Nat.mod_lt _ (by norm_num)⟩).1 (s / 256) (by omega) (s % 256 / 8) (by omega)
    rw [show 256 * (s / 256) + 8 * (s % 256 / 8) + s % 8 = s by omega] at this
    exact (hb _).trans this
  · obtain ⟨s, hs', e⟩ := (hs r).2
    exact ⟨s, hs', hr.trans e⟩

/-- The sum of a channel over all pixels, as loop 2 leaves it reduced over its rows. -/
theorem red2_sum (x0 : Vec Ideal S1x9216x320 .bf16) (x5 : Vec Ideal S16x256 .bf16) (h5 : ∀ r l, x5 (ix2 r l) = (1 : EReal)) (l : Fin 64) :
    k0_pay166 (st_k0_t2 (F := Ideal) 𝒱 c bd i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).1 (ix2 0 l) = ∑ s ∈ Finset.range 9216, px x0 s (256 + l.val) := by
  have ht : (Scf.trips (0#32) (Scalar.addi 0#32 36#32) 1#32) = 36 := by decide +kernel
  pointwise [k0_pay166, ht]
  rw [← sum_rows16 (fun s => px x0 s (256 + l.val))]
  refine Finset.sum_congr rfl fun r _ => ?_
  rw [st2_sum 𝒱 c bd i arg1 harg1 arg2 harg2 arg3 harg3 arg4 harg4 arg5 harg5 arg6 harg6 arg7 harg7 x5 h5 _ _ _ _ _ le_rfl]
  pointwise [k0_pay159, harg1.read_unread]

/-- The sq of a channel over all pixels, as loop 2 leaves it reduced over its rows. -/
theorem red2_sq (x0 : Vec Ideal S1x9216x320 .bf16) (x5 : Vec Ideal S16x256 .bf16) (h5 : ∀ r l, x5 (ix2 r l) = (1 : EReal)) (l : Fin 64) :
    k0_pay167 (st_k0_t2 (F := Ideal) 𝒱 c bd i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.1 (ix2 0 l) = ∑ s ∈ Finset.range 9216, px x0 s (256 + l.val) * px x0 s (256 + l.val) := by
  have ht : (Scf.trips (0#32) (Scalar.addi 0#32 36#32) 1#32) = 36 := by decide +kernel
  pointwise [k0_pay167, ht]
  rw [← sum_rows16 (fun s => px x0 s (256 + l.val) * px x0 s (256 + l.val))]
  refine Finset.sum_congr rfl fun r _ => ?_
  rw [st2_sq 𝒱 c bd i arg1 harg1 arg2 harg2 arg3 harg3 arg4 harg4 arg5 harg5 arg6 harg6 arg7 harg7 x5 h5 _ _ _ _ _ le_rfl]
  pointwise [k0_pay159, harg1.read_unread]

/-- The max of a channel over all pixels, as loop 2 leaves it reduced over its rows. -/
theorem red2_max (x0 : Vec Ideal S1x9216x320 .bf16) (x5 : Vec Ideal S16x256 .bf16) (h5 : ∀ r l, x5 (ix2 r l) = (1 : EReal)) (l : Fin 64) :
    TopOf (k0_pay168 (st_k0_t2 (F := Ideal) 𝒱 c bd i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.2.1 (ix2 0 l)) (fun s => px x0 s (256 + l.val)) 9216 := by
  have ht : (Scf.trips (0#32) (Scalar.addi 0#32 36#32) 1#32) = 36 := by decide +kernel
  pointwise [k0_pay168, ht, bits_neg_inf]
  obtain ⟨hb, r, hr⟩ := fold_max_spec (fun r : Fin 16 => (st_k0_t2 (F := Ideal) 𝒱 c bd i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) 36).2.2.1 (ix2 r l))
  have hi : ∀ r : Fin 16, ∃ s < 9216, (k0_pay158 (View.ld x0 (Rect.unit ![0, 0, 256] ![1, 16, 64] inb_S1x9216x320_S1x16x64_0_0_256)) : FVec Ideal S16x64 .bf16) (ix2 r l) = px (arg1.view.read (Elt Ideal) (harg1.unread x0)) s (256 + l.val) := by
    intro r
    refine ⟨r.val, by omega, ?_⟩
    pointwise [k0_pay158, harg1.read_unread]
    unfold px
    rw [dif_pos ⟨by omega, by omega⟩]
  have hs := fun r => st2_max 𝒱 c bd i arg1 harg1 arg2 harg2 arg3 harg3 arg4 harg4 arg5 harg5 arg6 harg6 arg7 harg7 x5 h5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) r l 36 le_rfl (hi r)
  simp only [harg1.read_unread] at hs
  constructor
  · intro s hs'
    have := (hs ⟨s % 16, Nat.mod_lt _ (by norm_num)⟩).1 (s / 256) (by omega) (s % 256 / 16) (by omega)
    rw [show 256 * (s / 256) + 16 * (s % 256 / 16) + s % 16 = s by omega] at this
    exact this.trans (hb _)
  · obtain ⟨s, hs', e⟩ := (hs r).2
    exact ⟨s, hs', hr.trans e⟩

/-- The min of a channel over all pixels, as loop 2 leaves it reduced over its rows. -/
theorem red2_min (x0 : Vec Ideal S1x9216x320 .bf16) (x5 : Vec Ideal S16x256 .bf16) (h5 : ∀ r l, x5 (ix2 r l) = (1 : EReal)) (l : Fin 64) :
    BotOf (k0_pay169 (st_k0_t2 (F := Ideal) 𝒱 c bd i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.2.2 (ix2 0 l)) (fun s => px x0 s (256 + l.val)) 9216 := by
  have ht : (Scf.trips (0#32) (Scalar.addi 0#32 36#32) 1#32) = 36 := by decide +kernel
  pointwise [k0_pay169, ht, bits_pos_inf]
  obtain ⟨hb, r, hr⟩ := fold_min_spec (fun r : Fin 16 => (st_k0_t2 (F := Ideal) 𝒱 c bd i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) 36).2.2.2 (ix2 r l))
  have hi : ∀ r : Fin 16, ∃ s < 9216, (k0_pay158 (View.ld x0 (Rect.unit ![0, 0, 256] ![1, 16, 64] inb_S1x9216x320_S1x16x64_0_0_256)) : FVec Ideal S16x64 .bf16) (ix2 r l) = px (arg1.view.read (Elt Ideal) (harg1.unread x0)) s (256 + l.val) := by
    intro r
    refine ⟨r.val, by omega, ?_⟩
    pointwise [k0_pay158, harg1.read_unread]
    unfold px
    rw [dif_pos ⟨by omega, by omega⟩]
  have hs := fun r => st2_min 𝒱 c bd i arg1 harg1 arg2 harg2 arg3 harg3 arg4 harg4 arg5 harg5 arg6 harg6 arg7 harg7 x5 h5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) r l 36 le_rfl (hi r)
  simp only [harg1.read_unread] at hs
  constructor
  · intro s hs'
    have := (hs ⟨s % 16, Nat.mod_lt _ (by norm_num)⟩).1 (s / 256) (by omega) (s % 256 / 16) (by omega)
    rw [show 256 * (s / 256) + 16 * (s % 256 / 16) + s % 16 = s by omega] at this
    exact (hb _).trans this
  · obtain ⟨s, hs', e⟩ := (hs r).2
    exact ⟨s, hs', hr.trans e⟩

end

end Cert.KernelIdeal.Value
-- ==== Proof.Coef.lean ====
module

public import proofs.«01_k».proof.Proof.Reduce

@[expose] public section

set_option maxRecDepth 16384

noncomputable section

namespace Cert.KernelIdeal.Value

open Idealize.ShloMosaic Idealize.ShloMosaic.TcCoe Idealize.SL.Sem
open Cert.KernelIdeal Cert.KernelIdeal.Gen

/-- The mean of a channel's pixels. -/
def kmc (x : FVec Ideal S1x9216x320 .bf16) (d : ℕ) : EReal :=
  (∑ s ∈ Finset.range 9216, px x s d) * ((1 / 9216 : ℝ) : EReal)

/-- The mean of a channel's squared pixels. -/
def ksq (x : FVec Ideal S1x9216x320 .bf16) (d : ℕ) : EReal :=
  (∑ s ∈ Finset.range 9216, px x s d * px x s d) * ((1 / 9216 : ℝ) : EReal)

/-- The mean of a row over a channel's group, by the group matrix. -/
def kgm (g : FVec Ideal S320x320 .f32) (row : Fin 320 → EReal) (d : Fin 320) : EReal :=
  (∑ k : Fin 320, row k * g (ix2 k d)) * ((1 / 10 : ℝ) : EReal)

/-- The group mean of the shifted image. -/
def kmean (x : FVec Ideal S1x9216x320 .bf16) (t : FVec Ideal S1x1x320 .bf16) (g : FVec Ideal S320x320 .f32) (d : Fin 320) : EReal :=
  kgm g (fun k => kmc x k.val + t (ix3 0 0 k)) d

/-- The group variance of the shifted image, from the channels' moments. -/
def kvar (x : FVec Ideal S1x9216x320 .bf16) (t : FVec Ideal S1x1x320 .bf16) (g : FVec Ideal S320x320 .f32) (d : Fin 320) : EReal :=
  kgm g (fun k => ksq x k.val - kmc x k.val * kmc x k.val
    + (kmc x k.val + t (ix3 0 0 k) - kmean x t g k) * (kmc x k.val + t (ix3 0 0 k) - kmean x t g k)) d

/-- The factor of a channel: its scale over the group's standard deviation. -/
def ka (x : FVec Ideal S1x9216x320 .bf16) (t : FVec Ideal S1x1x320 .bf16) (ga : FVec Ideal S1x320 .f32) (g : FVec Ideal S320x320 .f32) (d : Fin 320) : EReal :=
  ga (ix2 0 d) * Ideal.rsqrt (kvar x t g d + Ideal.ofBits .f32 0x3727C5AC#32)

/-- The offset of a channel. -/
def kb (x : FVec Ideal S1x9216x320 .bf16) (t : FVec Ideal S1x1x320 .bf16) (ga be : FVec Ideal S1x320 .f32) (g : FVec Ideal S320x320 .f32) (d : Fin 320) : EReal :=
  be (ix2 0 d) + (t (ix3 0 0 d) - kmean x t g d) * ka x t ga g d

/-- `v / (1 + 2^(-v / ln 2))`. -/
def ksilu (v : EReal) : EReal :=
  Ideal.div v (1 + Ideal.exp2 (v * ((-(Real.log 2)⁻¹ : ℝ) : EReal)))

/-- `max v (-v)`, the magnitude. -/
def kabs (v : EReal) : EReal := FloatOps.absf (F := Ideal) (φ := .f32) v

/-- The named constant `1 / 9216`. -/
theorem named_seq : (Named.named (F := Ideal) κ "inv_seq" 0x38E38E39#32 : Ideal .f32) = ((1 / 9216 : ℝ) : EReal) :=
  IdealRules.named_const.ideal_named_scalar _ _ _ _ rfl

/-- The named constant `1 / 10`. -/
theorem named_gw : (Named.named (F := Ideal) κ "inv_gw" 0x3DCCCCCD#32 : Ideal .f32) = ((1 / 10 : ℝ) : EReal) :=
  IdealRules.named_const.ideal_named_scalar _ _ _ _ rfl

/-- The named constant `-1 / ln 2`. -/
theorem named_log2e : (Named.named (F := Ideal) κ "neg_log2e" 0xBFB8AA3B#32 : Ideal .f32) = ((-(Real.log 2)⁻¹ : ℝ) : EReal) :=
  IdealRules.named_const.ideal_named_scalar _ _ _ _ rfl

/-- A row of 256 and a row of 64 lanes side by side, at a lane. -/
theorem cat_at (A : FVec Ideal S1x256 .f32) (B : FVec Ideal S1x64 .f32) (f : ℕ → EReal) (hA : ∀ l : Fin 256, A (ix2 0 l) = f l.val)
    (hB : ∀ l : Fin 64, B (ix2 0 l) = f (256 + l.val)) (h) (d : Fin 320) :
    concatenate S1x320 1 [⟨S1x256, A⟩, ⟨S1x64, B⟩] h (ix2 0 d) = f d.val := by
  pointwise []
  by_cases hd : d.val < 256
  · rw [dif_pos hd, hA]
  · rw [dif_neg hd, hB]
    congr 1
    show 256 + (d.val - 256) = d.val
    omega

/-- The extremes of a row of 256 and a row of 64 lanes side by side, at a lane. -/
theorem cat_pred (P : EReal → ℕ → Prop) (A : FVec Ideal S1x256 .f32) (B : FVec Ideal S1x64 .f32) (hA : ∀ l : Fin 256, P (A (ix2 0 l)) l.val)
    (hB : ∀ l : Fin 64, P (B (ix2 0 l)) (256 + l.val)) (h) (d : Fin 320) :
    P (concatenate S1x320 1 [⟨S1x256, A⟩, ⟨S1x64, B⟩] h (ix2 0 d)) d.val := by
  pointwise []
  by_cases hd : d.val < 256
  · rw [dif_pos hd]; exact hA ⟨d.val, hd⟩
  · rw [dif_neg hd]
    have := hB ⟨d.val - 256, by omega⟩
    rw [show 256 + (⟨d.val - 256, by omega⟩ : Fin 64).val = d.val from Nat.add_sub_of_le (by omega)] at this
    exact this

theorem pay172_at (x1 : FVec Ideal S1x1x320 .bf16) (d : Fin 320) : k0_pay172 (F := Ideal) x1 (ix2 0 d) = x1 (ix3 0 0 d) := by
  pointwise [k0_pay172]

theorem pay176_at (x3 : FVec Ideal S1x320 .f32) (d : Fin 320) : k0_pay176 (F := Ideal) x3 (ix2 0 d) = x3 (ix2 0 d) := by
  pointwise [k0_pay176]

section
variable (x0 : FVec Ideal S1x9216x320 .bf16) (x1 : FVec Ideal S1x1x320 .bf16) (x2 x3 : FVec Ideal S1x320 .f32) (x4 : FVec Ideal S320x320 .f32)
  (s1 q1 : FVec Ideal S1x256 .f32) (s2 q2 : FVec Ideal S1x64 .f32)
  (hs1 : ∀ (l : Fin 256), s1 (ix2 0 l) = ∑ s ∈ Finset.range 9216, px x0 s l.val)
  (hs2 : ∀ (l : Fin 64), s2 (ix2 0 l) = ∑ s ∈ Finset.range 9216, px x0 s (256 + l.val))
  (hq1 : ∀ (l : Fin 256), q1 (ix2 0 l) = ∑ s ∈ Finset.range 9216, px x0 s l.val * px x0 s l.val)
  (hq2 : ∀ (l : Fin 64), q2 (ix2 0 l) = ∑ s ∈ Finset.range 9216, px x0 s (256 + l.val) * px x0 s (256 + l.val))
include hs1 hs2

theorem pay173_at (d : Fin 320) : k0_pay173 (F := Ideal) s1 s2 (ix2 0 d) = kmc x0 d.val := by
  have h := cat_at s1 s2 (fun d => ∑ s ∈ Finset.range 9216, px x0 s d) hs1 hs2 concatenates_S1x256_S1x64_S1x320_d1 d
  unfold k0_pay173 kmc
  exact congrArg₂ (· * ·) h named_seq

theorem pay174_at (d : Fin 320) : k0_pay174 (F := Ideal) s1 s2 x1 x4 (ix2 0 d) = kmean x0 x1 x4 d := by
  have h := pay173_at x0 s1 s2 hs1 hs2
  pointwise [k0_pay174, named_gw, h, pay172_at, kmean, kgm]
  try rw [zero_add]

include hq1 hq2

theorem pay175_at (d : Fin 320) : k0_pay175 (F := Ideal) s1 q1 s2 q2 x1 x4 x4 x2 (ix2 0 d) = ka x0 x1 x2 x4 d := by
  have h3 := pay173_at x0 s1 s2 hs1 hs2
  have h4 := pay174_at x0 x1 x4 s1 s2 hs1 hs2
  have hq : ∀ d : Fin 320, concatenate S1x320 1 [⟨S1x256, q1⟩, ⟨S1x64, q2⟩] concatenates_S1x256_S1x64_S1x320_d1 (ix2 0 d) = _ :=
    cat_at q1 q2 (fun d => ∑ s ∈ Finset.range 9216, px x0 s d * px x0 s d) hq1 hq2 concatenates_S1x256_S1x64_S1x320_d1
  unfold k0_pay175
  generalize concatenate S1x320 1 [⟨S1x256, q1⟩, ⟨S1x64, q2⟩] concatenates_S1x256_S1x64_S1x320_d1 = Q at *
  pointwise [named_gw, named_seq, h3, h4, hq, pay172_at, ka, kvar, kgm, ksq]
  try rw [zero_add]

end

theorem pay1_at (M m t mu a b : FVec Ideal S1x320 .f32) (d : Fin 320) :
    k0_pay1 (F := Ideal) M m t mu a b (ix3 0 0 d) = a (ix2 0 d) ∧
    k0_pay1 (F := Ideal) M m t mu a b (ix3 0 1 d) = b (ix2 0 d) + (t (ix2 0 d) - mu (ix2 0 d)) * a (ix2 0 d) ∧
    k0_pay1 (F := Ideal) M m t mu a b (ix3 0 2 d) =
      max (kabs (ksilu (M (ix2 0 d) * a (ix2 0 d) + (b (ix2 0 d) + (t (ix2 0 d) - mu (ix2 0 d)) * a (ix2 0 d)))))
        (kabs (ksilu (m (ix2 0 d) * a (ix2 0 d) + (b (ix2 0 d) + (t (ix2 0 d) - mu (ix2 0 d)) * a (ix2 0 d))))) := by
  refine ⟨?_, ?_, ?_⟩
  · pointwise [k0_pay1]
  · pointwise [k0_pay1]
  · pointwise [k0_pay1, named_log2e, ksilu, kabs]
    rfl

section
variable (c : Dev nD) (i : grid0.Coords)
  (arg1 : Memref sig .tc .vmem S1x9216x320 .bf16) (harg1 : arg1.IsWhole)
  (arg2 : Memref sig .tc .vmem S1x1x320 .bf16) (harg2 : arg2.IsWhole)
  (arg3 : Memref sig .tc .vmem S1x320 .f32) (harg3 : arg3.IsWhole)
  (arg4 : Memref sig .tc .vmem S1x320 .f32) (harg4 : arg4.IsWhole)
  (arg5 : Memref sig .tc .vmem S320x320 .f32) (harg5 : arg5.IsWhole)
  (arg6 : Memref sig .tc .vmem S16x256 .bf16) (harg6 : arg6.IsWhole)
  (arg7 : Memref sig .tc .vmem S1x8x320 .f32) (harg7 : arg7.IsWhole)
/-- The first kernel's block: row 0 the factors, row 1 the offsets, row 2 the larger magnitude of the activation at the
    two extreme pixels of a channel. -/
theorem out0_spec (x0 : Vec Ideal S1x9216x320 .bf16) (x1 : Vec Ideal S1x1x320 .bf16) (x2 : Vec Ideal S1x320 .f32) (x3 : Vec Ideal S1x320 .f32) (x4 : Vec Ideal S320x320 .f32) (x5 : Vec Ideal S16x256 .bf16)
    (h5 : ∀ r l, x5 (ix2 r l) = (1 : EReal)) (d : Fin 320) :
    let o := out0_A_6 (F := Ideal) c i arg1 harg1 arg2 harg2 arg3 harg3 arg4 harg4 arg5 harg5 arg6 harg6 arg7 harg7 x0 x1 x2 x3 x4 x5
    o (ix3 0 0 d) = ka x0 x1 x2 x4 d ∧ o (ix3 0 1 d) = kb x0 x1 x2 x3 x4 d ∧
    ∃ mx mn, TopOf mx (fun s => px x0 s d.val) 9216 ∧ BotOf mn (fun s => px x0 s d.val) 9216 ∧
      o (ix3 0 2 d) = max (kabs (ksilu (mx * ka x0 x1 x2 x4 d + kb x0 x1 x2 x3 x4 d))) (kabs (ksilu (mn * ka x0 x1 x2 x4 d + kb x0 x1 x2 x3 x4 d))) := by
  intro o
  have hs1 : ∀ l : Fin 256, k0_pay154 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).1 (ix2 0 l) = _ := fun l => red1_sum Variants.none c none i arg1 harg1 arg2 harg2 arg3 harg3 arg4 harg4 arg5 harg5 arg6 harg6 arg7 harg7 x0 x5 h5 l
  have hs2 : ∀ l : Fin 64, k0_pay166 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).1 (ix2 0 l) = _ := fun l => red2_sum Variants.none c none i arg1 harg1 arg2 harg2 arg3 harg3 arg4 harg4 arg5 harg5 arg6 harg6 arg7 harg7 x0 x5 h5 l
  have hq1 : ∀ l : Fin 256, k0_pay155 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.1 (ix2 0 l) = _ := fun l => red1_sq Variants.none c none i arg1 harg1 arg2 harg2 arg3 harg3 arg4 harg4 arg5 harg5 arg6 harg6 arg7 harg7 x0 x5 h5 l
  have hq2 : ∀ l : Fin 64, k0_pay167 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.1 (ix2 0 l) = _ := fun l => red2_sq Variants.none c none i arg1 harg1 arg2 harg2 arg3 harg3 arg4 harg4 arg5 harg5 arg6 harg6 arg7 harg7 x0 x5 h5 l
  have hM1 : ∀ l : Fin 256, TopOf (k0_pay156 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.2.1 (ix2 0 l)) _ 9216 := fun l => red1_max Variants.none c none i arg1 harg1 arg2 harg2 arg3 harg3 arg4 harg4 arg5 harg5 arg6 harg6 arg7 harg7 x0 x5 h5 l
  have hM2 : ∀ l : Fin 64, TopOf (k0_pay168 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.2.1 (ix2 0 l)) _ 9216 := fun l => red2_max Variants.none c none i arg1 harg1 arg2 harg2 arg3 harg3 arg4 harg4 arg5 harg5 arg6 harg6 arg7 harg7 x0 x5 h5 l
  have hm1 : ∀ l : Fin 256, BotOf (k0_pay157 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.2.2 (ix2 0 l)) _ 9216 := fun l => red1_min Variants.none c none i arg1 harg1 arg2 harg2 arg3 harg3 arg4 harg4 arg5 harg5 arg6 harg6 arg7 harg7 x0 x5 h5 l
  have hm2 : ∀ l : Fin 64, BotOf (k0_pay169 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.2.2 (ix2 0 l)) _ 9216 := fun l => red2_min Variants.none c none i arg1 harg1 arg2 harg2 arg3 harg3 arg4 harg4 arg5 harg5 arg6 harg6 arg7 harg7 x0 x5 h5 l
  have e : o = k0_pay1 (k0_pay170 (k0_pay156 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.2.1) (k0_pay168 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.2.1)) (k0_pay171 (k0_pay157 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.2.2) (k0_pay169 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.2.2))
      (k0_pay172 x1) (k0_pay174 (k0_pay154 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).1) (k0_pay166 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).1) x1 x4)
      (k0_pay175 (k0_pay154 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).1) (k0_pay155 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.1) (k0_pay166 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).1) (k0_pay167 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.1) x1 x4 x4 x2) (k0_pay176 x3) := by
    funext y
    show out0_A_6 (F := Ideal) c i arg1 harg1 arg2 harg2 arg3 harg3 arg4 harg4 arg5 harg5 arg6 harg6 arg7 harg7 x0 x1 x2 x3 x4 x5 y = _
    frame_out
  clear_value o
  generalize k0_pay154 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).1 = s1 at *
  generalize k0_pay155 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.1 = q1 at *
  generalize k0_pay156 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.2.1 = M1 at *
  generalize k0_pay157 (st_k0_t1 (F := Ideal) Variants.none c none i arg1 harg1 arg2 harg2 arg3 harg3 arg4 harg4 arg5 harg5 arg6 harg6 arg7 harg7 x5 (harg1.unread x0) (k0_pay145, k0_pay145, k0_pay144 (View.ld x0 (Rect.unit ![0, 0, 0] ![1, 8, 256] inb_S1x9216x320_S1x8x256_0_0_0)), k0_pay144 (View.ld x0 (Rect.unit ![0, 0, 0] ![1, 8, 256] inb_S1x9216x320_S1x8x256_0_0_0))) (Scf.trips (0#32) (Scalar.addi 0#32 36#32) 1#32)).2.2.2 = m1 at *
  generalize k0_pay166 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).1 = s2 at *
  generalize k0_pay167 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.1 = q2 at *
  generalize k0_pay168 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.2.1 = M2 at *
  generalize k0_pay169 (st_k0_t2 (F := Ideal) Variants.none c none i arg1 harg1 arg2 harg2 arg3 harg3 arg4 harg4 arg5 harg5 arg6 harg6 arg7 harg7 x5 (harg1.unread x0) (k0_pay159, k0_pay159, k0_pay158 (View.ld x0 (Rect.unit ![0, 0, 256] ![1, 16, 64] inb_S1x9216x320_S1x16x64_0_0_256)), k0_pay158 (View.ld x0 (Rect.unit ![0, 0, 256] ![1, 16, 64] inb_S1x9216x320_S1x16x64_0_0_256))) (Scf.trips (0#32) (Scalar.addi 0#32 36#32) 1#32)).2.2.2 = m2 at *
  obtain ⟨p0, p1, p2⟩ := pay1_at (k0_pay170 M1 M2) (k0_pay171 m1 m2) (k0_pay172 x1) (k0_pay174 s1 s2 x1 x4) (k0_pay175 s1 q1 s2 q2 x1 x4 x4 x2) (k0_pay176 x3) d
  rw [pay175_at x0 x1 x2 x4 s1 q1 s2 q2 hs1 hs2 hq1 hq2, ] at p0
  rw [pay175_at x0 x1 x2 x4 s1 q1 s2 q2 hs1 hs2 hq1 hq2, pay174_at x0 x1 x4 s1 s2 hs1 hs2, pay172_at, pay176_at] at p1 p2
  subst e
  refine ⟨p0, p1, _, _, ?_, ?_, p2⟩
  · exact cat_pred (fun m d => TopOf m (fun s => px x0 s d) 9216) M1 M2 hM1 hM2 concatenates_S1x256_S1x64_S1x320_d1 d
  · exact cat_pred (fun m d => BotOf m (fun s => px x0 s d) 9216) m1 m2 hm1 hm2 concatenates_S1x256_S1x64_S1x320_d1 d

end

end Cert.KernelIdeal.Value
-- ==== Proof.Scale.lean ====
module

public import proofs.«01_k».proof.Proof.Gen.KernelIdeal.Frame
public import proofs.«01_k».proof.Proof.Coef
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- A loop that adds one at every trip from `E` on counts the trips from `E` on. -/
theorem fold_count {σ : Type} {n : ℕ} (g : Fin n → σ → σ) (init : σ) (rd : σ → BitVec 32) (E : ℕ)
    (hg : ∀ k a, rd (g k a) = rd a + (if E ≤ k.val then 1#32 else 0#32)) (h0 : rd init = 0#32) :
    rd (Scf.fold g init) = BitVec.ofNat 32 (n - E) := by
  rw [Scf.fold_eq]
  have key : ∀ m ≤ n, rd (((List.finRange n).take m).foldl (fun acc k => g k acc) init) = BitVec.ofNat 32 (m - E) := by
    intro m
    induction m with
    | zero => intro _; simp [h0]
    | succ m ih =>
      intro hm
      rw [List.take_succ_eq_append_getElem (by simpa using hm), List.foldl_append, List.foldl_cons, List.foldl_nil, hg, ih (by omega)]
      simp only [List.getElem_finRange]
      by_cases h : E ≤ m
      · rw [if_pos (by simpa using h), Nat.sub_add_comm h, BitVec.ofNat_add]
      · rw [if_neg (by simpa using h), show m - E = 0 by omega, show m + 1 - E = 0 by omega]
        rfl
  have := key n le_rfl
  rwa [List.take_of_length_le (by simp)] at this

/-- The exponent field of a shifted word. -/
theorem field_of_shift : ∀ n : Fin 256, ((BitVec.ofNat 32 n.val <<< 23).extractLsb' 23 8).toNat = n.val := by decide +kernel

/-- The fraction field of a shifted word. -/
theorem frac_of_shift : ∀ n : Fin 256, ((BitVec.ofNat 32 n.val <<< 23).extractLsb' 0 23).toNat = 0 := by decide +kernel

/-- The sign of a shifted word. -/
theorem sign_of_shift : ∀ n : Fin 256, ((BitVec.ofNat 32 n.val <<< 23).extractLsb' 31 1 == 1#1) = false := by decide +kernel

/-- What an f32 pattern denotes. -/
theorem bits_ieee (b : BitVec 32) : Ideal.ofBits .f32 b = Ideal.ieee 8 23 b := rfl

/-- A word whose exponent field is `n` and whose other bits are zero is a power of two. -/
theorem pow_bits (n : ℕ) (h1 : 1 ≤ n) (h2 : n ≤ 254) :
    Ideal.ofBits .f32 (BitVec.ofNat 32 n <<< 23) = (((2 : ℝ) ^ ((n : ℤ) - 127) : ℝ) : EReal) := by
  have e1 := field_of_shift ⟨n, by omega⟩
  have e2 := frac_of_shift ⟨n, by omega⟩
  have e3 := sign_of_shift ⟨n, by omega⟩
  rw [bits_ieee]
  generalize BitVec.ofNat 32 n <<< 23 = b at e1 e2 e3
  simp only at e1 e2 e3
  unfold Ideal.ieee
  simp only [e1, e2, e3, Nat.reduceAdd]
  have hz : (2 : ℝ) ^ ((n : ℤ) - (2 ^ (8 - 1) - 1) - ((23 : ℕ) : ℤ)) = 2 ^ ((n : ℤ) - 127) / 2 ^ 23 := by
    rw [show ((n : ℤ) - (2 ^ (8 - 1) - 1) - ((23 : ℕ) : ℤ)) = ((n : ℤ) - 127) - ((23 : ℕ) : ℤ) by norm_num, zpow_sub₀ two_ne_zero, zpow_natCast]
  rw [if_neg (by norm_num; omega), if_neg (by omega), hz]
  congr 1
  simp
  ring

/-- The word whose exponent field is all ones is plus infinity. -/
theorem top_bits : Ideal.ofBits .f32 (BitVec.ofNat 32 255 <<< 23) = ⊤ := by
  have e1 := field_of_shift ⟨255, by omega⟩
  have e2 := frac_of_shift ⟨255, by omega⟩
  have e3 := sign_of_shift ⟨255, by omega⟩
  rw [bits_ieee]
  generalize BitVec.ofNat 32 255 <<< 23 = b at e1 e2 e3
  simp only at e1 e2 e3
  unfold Ideal.ieee
  simp only [e1, e2, e3, Nat.reduceAdd]
  norm_num

/-- The largest entry of a 14 by 320 block, times the constant. -/
theorem pay12_at (v0 : FVec Ideal S14x1x320 .f32) :
    ∃ w : EReal, (∀ n d, v0 (ix3 n 0 d) ≤ w) ∧ (∃ n d, w = v0 (ix3 n 0 d)) ∧
      ∀ r l, (k1_pay12 v0 : FVec Ideal S8x128 .f32) (ix2 r l) = w * Ideal.ofBits .f32 0x3B124925#32 := by
  have hI : ∀ y : S14x1x320.Idx, ∃ n d, y = ix3 n 0 d := fun y => ⟨y 0, y 2, by idx_ext⟩
  have hf : Finset.filter (fun i => reduces_S14x1x320_S1.drop i = ix1 0) (Finset.univ : Finset S14x1x320.Idx) = Finset.univ := by
    ext i
    simp only [Finset.mem_filter, Finset.mem_univ, true_and, iff_true]
    funext a
    fin_cases a
    exact Subsingleton.elim (α := Fin 1) _ _
  refine ⟨Finset.univ.sup v0, fun n d => Finset.le_sup (f := v0) (Finset.mem_univ _), ?_, fun r l => ?_⟩
  · obtain ⟨y, -, h⟩ := Finset.exists_mem_eq_sup Finset.univ ⟨ix3 0 0 0, Finset.mem_univ _⟩ v0
    obtain ⟨n, d, rfl⟩ := hI y
    exact ⟨n, d, h⟩
  · pointwise [k1_pay12, bits_neg_inf]
    rw [hf]
    rfl

/-- The word of the power of two that trip `k` compares with. -/
theorem word_trip : ∀ k : Fin 255, IntOp.shli .vector (IntOp.addi (Scalar.subi (Scf.iv 0#32 1#32 k.val) 126#32) 127#32) 23#32 = BitVec.ofNat 32 (k.val + 1) <<< 23 := by
  decide +kernel

/-- The word of the scale. -/
theorem word_scale : ∀ E : Fin 254, IntOp.shli .vector (IntOp.addi (IntOp.subi 129#32 (BitVec.ofNat 32 (255 - E.val))) 127#32) 23#32 = BitVec.ofNat 32 (E.val + 1) <<< 23 := by
  decide +kernel

/-- The word of the inverse of the scale. -/
theorem word_inv : ∀ E : Fin 254, IntOp.shli .vector (IntOp.addi (IntOp.subi 0#32 (IntOp.subi 129#32 (BitVec.ofNat 32 (255 - E.val)))) 127#32) 23#32 = BitVec.ofNat 32 (253 - E.val) <<< 23 := by
  decide +kernel

/-- Powers of two compared with a number between two of them. -/
theorem lt_pow_iff (m : ℝ) (E k : ℕ) (h0 : (2 : ℝ) ^ ((E : ℤ) - 127) ≤ m) (h1 : m < (2 : ℝ) ^ ((E : ℤ) - 126)) (hE' : E ≤ 252) (hk : k < 255) :
    ((m : EReal) < Ideal.ofBits .f32 (BitVec.ofNat 32 (k + 1) <<< 23)) ↔ E ≤ k := by
  by_cases h : k = 254
  · subst h
    rw [top_bits]
    exact ⟨fun _ => by omega, fun _ => EReal.coe_lt_top _⟩
  · rw [pow_bits (k + 1) (by omega) (by omega), EReal.coe_lt_coe_iff]
    constructor
    · intro hlt
      by_contra hc
      have : (2 : ℝ) ^ (((k + 1 : ℕ) : ℤ) - 127) ≤ 2 ^ ((E : ℤ) - 127) := zpow_le_zpow_right₀ (by norm_num) (by omega)
      linarith
    · intro hE
      exact lt_of_lt_of_le h1 (zpow_le_zpow_right₀ (by norm_num) (by push_cast; omega))

section
variable (v0 : FVec Ideal S14x1x320 .f32) (m : ℝ) (E : ℕ) (h0 : (2 : ℝ) ^ ((E : ℤ) - 127) ≤ m) (h1 : m < (2 : ℝ) ^ ((E : ℤ) - 126)) (hE : 1 ≤ E) (hE' : E ≤ 252)
  (hm : ∀ r l, (k1_pay12 v0 : FVec Ideal S8x128 .f32) (ix2 r l) = (m : EReal))
include h0 h1 hE hE' hm

/-- What the counting loop leaves at every lane. -/
theorem count_at (r : Fin 8) (l : Fin 128) :
    (Scf.fold (n := k1_t1_loop.trips) (fun a a_1 => k1_pay14 (F := Ideal) v0 a a_1) k1_pay13 : IVec S8x128 32) (ix2 r l) = BitVec.ofNat 32 (255 - E) := by
  have ht : k1_t1_loop.trips = 255 := by decide +kernel
  have := fold_count (fun a a_1 => k1_pay14 (F := Ideal) v0 a a_1) k1_pay13 (fun v : IVec S8x128 32 => v (ix2 r l)) E ?_ ?_
  · exact this.trans (by rw [ht])
  · intro k a
    pointwise [k1_pay14, hm]
    have hk : k.val < 255 := ht ▸ k.isLt
    have e := word_trip ⟨k.val, hk⟩
    simp only at e
    rw [e]
    simp only [lt_pow_iff m E k.val h0 h1 hE' hk]
    rfl
  · pointwise [k1_pay13]

/-- The scale at every lane. -/
theorem pay16_at (r : Fin 8) (l : Fin 128) :
    (k1_pay16 v0 (Scf.fold (n := k1_t1_loop.trips) (fun a a_1 => k1_pay14 (F := Ideal) v0 a a_1) k1_pay13) : FVec Ideal S8x128 .f32) (ix2 r l) = (((2 : ℝ) ^ ((E : ℤ) - 126) : ℝ) : EReal) := by
  have hc := count_at v0 m E h0 h1 hE hE' hm r l
  generalize (Scf.fold (n := k1_t1_loop.trips) (fun a a_1 => k1_pay14 (F := Ideal) v0 a a_1) k1_pay13 : IVec S8x128 32) = v at hc
  pointwise [k1_pay16, k1_pay15, hm, hc]
  have hmne : ¬ ((m : EReal) = 0) := by
    have : 0 < m := lt_of_lt_of_le (by positivity) h0
    exact_mod_cast this.ne'
  rw [if_neg hmne]
  have e := word_scale ⟨E, by omega⟩
  simp only at e
  rw [e, pow_bits (E + 1) (by omega) (by omega)]
  congr 2
  push_cast
  ring

/-- The inverse of the scale at every lane. -/
theorem pay17_at (r : Fin 8) (l : Fin 128) :
    (k1_pay17 v0 (Scf.fold (n := k1_t1_loop.trips) (fun a a_1 => k1_pay14 (F := Ideal) v0 a a_1) k1_pay13) : FVec Ideal S8x128 .f32) (ix2 r l) = (((2 : ℝ) ^ (126 - (E : ℤ)) : ℝ) : EReal) := by
  have hc := count_at v0 m E h0 h1 hE hE' hm r l
  generalize (Scf.fold (n := k1_t1_loop.trips) (fun a a_1 => k1_pay14 (F := Ideal) v0 a a_1) k1_pay13 : IVec S8x128 32) = v at hc
  pointwise [k1_pay17, k1_pay15, hm, hc]
  have hmne : ¬ ((m : EReal) = 0) := by
    have : 0 < m := lt_of_lt_of_le (by positivity) h0
    exact_mod_cast this.ne'
  rw [if_neg hmne]
  have e := word_inv ⟨E, by omega⟩
  simp only at e
  rw [e, pow_bits (253 - E) (by omega) (by omega)]
  congr 2
  omega

end

end Cert.KernelIdeal.Value
-- ==== Proof.Codes.lean ====
module

public import proofs.«01_k».proof.Proof.Gen.KernelIdeal.Frame
public import proofs.«01_k».proof.Proof.Scale
public import Idealize.ShloMosaic.Lib.Pipeline.ReadBack
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- The code of one pixel: the scaled affine of the pixel through the scaled SiLU, clipped to the fp8 range. -/
def kcode (x a b sc : EReal) : EReal :=
  min (Ideal.ofBits .f32 0x43E00000#32) (max (Ideal.ofBits .f32 0xC3E00000#32)
    (Ideal.div (x * a + b) (1 + Ideal.exp2 ((x * a + b) * sc))))

/-- A vector of rows that are all the same row. -/
def rows (A : Fin 128 → EReal) : FVec Ideal S128x128 .f32 := fun y => A (y 1)

/-- Sixteen copies of eight equal rows, one below the other. -/
theorem rep16 (v : FVec Ideal S8x128 .f32) (A : Fin 128 → EReal) (hv : ∀ r l, v (ix2 r l) = A l) (h) :
    concatenate S128x128 0 [⟨S8x128, v⟩, ⟨S8x128, v⟩, ⟨S8x128, v⟩, ⟨S8x128, v⟩, ⟨S8x128, v⟩, ⟨S8x128, v⟩, ⟨S8x128, v⟩, ⟨S8x128, v⟩, ⟨S8x128, v⟩, ⟨S8x128, v⟩, ⟨S8x128, v⟩, ⟨S8x128, v⟩, ⟨S8x128, v⟩, ⟨S8x128, v⟩, ⟨S8x128, v⟩, ⟨S8x128, v⟩] h = rows A := by
  funext y
  have e := concatenate_replicate_apply (t := S128x128) (s₁ := S8x128) 0 16 v h rfl y (ix2 ⟨(y 0).val % 8, Nat.mod_lt _ (by norm_num)⟩ (y 1)) rfl
    (fun b hb => by fin_cases b; exact absurd rfl hb; rfl)
  exact e.trans (hv _ _)

/-- A shorter vector of rows that are all the same row. -/
def rowsB (A : Fin 128 → EReal) : FVec Ideal S64x128 .f32 := fun y => A (y 1)

/-- Eight copies of eight equal rows, one below the other. -/
theorem rep8 (v : FVec Ideal S8x128 .f32) (A : Fin 128 → EReal) (hv : ∀ r l, v (ix2 r l) = A l) (h) :
    concatenate S64x128 0 [⟨S8x128, v⟩, ⟨S8x128, v⟩, ⟨S8x128, v⟩, ⟨S8x128, v⟩, ⟨S8x128, v⟩, ⟨S8x128, v⟩, ⟨S8x128, v⟩, ⟨S8x128, v⟩] h = rowsB A := by
  funext y
  have e := concatenate_replicate_apply (t := S64x128) (s₁ := S8x128) 0 8 v h rfl y (ix2 ⟨(y 0).val % 8, Nat.mod_lt _ (by norm_num)⟩ (y 1)) rfl
    (fun b hb => by fin_cases b; exact absurd rfl hb; rfl)
  exact e.trans (hv _ _)

/-- The codes of the first channel tile, at an index. -/
theorem pay10_at (v37 v40 v64 : FVec Ideal S8x128 .f32) (v69 : FVec Ideal S1x128x128 .bf16) (A B : Fin 128 → EReal) (s : EReal)
    (h37 : ∀ r l, v37 (ix2 r l) = A l) (h40 : ∀ r l, v40 (ix2 r l) = B l) (h64 : ∀ r l, v64 (ix2 r l) = s) (r l : Fin 128) :
    k1_pay10 v37 v40 v64 v69 (ix3 0 r l) = kcode (v69 (ix3 0 r l)) (A l) (B l) s := by
  have e1 := rep16 v37 A h37 concatenates_S8x128_S8x128_S8x128_S8x128_S8x128_S8x128_S8x128_S8x128_S8x128_S8x128_S8x128_S8x128_S8x128_S8x128_S8x128_S8x128_S128x128_d0
  have e2 := rep16 v40 B h40 concatenates_S8x128_S8x128_S8x128_S8x128_S8x128_S8x128_S8x128_S8x128_S8x128_S8x128_S8x128_S8x128_S8x128_S8x128_S8x128_S8x128_S128x128_d0
  have e3 := rep16 v64 (fun _ => s) h64 concatenates_S8x128_S8x128_S8x128_S8x128_S8x128_S8x128_S8x128_S8x128_S8x128_S8x128_S8x128_S8x128_S8x128_S8x128_S8x128_S8x128_S128x128_d0
  unfold k1_pay10
  rw [e1, e2, e3]
  pointwise [kcode, rows]
  rfl

/-- The codes of the second channel tile, at an index. -/
theorem pay11_at (v47 v50 v64 : FVec Ideal S8x128 .f32) (v92 : FVec Ideal S1x128x128 .bf16) (A B : Fin 128 → EReal) (s : EReal)
    (h47 : ∀ r l, v47 (ix2 r l) = A l) (h50 : ∀ r l, v50 (ix2 r l) = B l) (h64 : ∀ r l, v64 (ix2 r l) = s) (r l : Fin 128) :
    k1_pay6 (k1_pay11 v47 v50 v64 v92) (ix3 0 r l) = kcode (v92 (ix3 0 r l)) (A l) (B l) s := by
  have e1 := rep16 v47 A h47 concatenates_S8x128_S8x128_S8x128_S8x128_S8x128_S8x128_S8x128_S8x128_S8x128_S8x128_S8x128_S8x128_S8x128_S8x128_S8x128_S8x128_S128x128_d0
  have e2 := rep16 v50 B h50 concatenates_S8x128_S8x128_S8x128_S8x128_S8x128_S8x128_S8x128_S8x128_S8x128_S8x128_S8x128_S8x128_S8x128_S8x128_S8x128_S8x128_S128x128_d0
  have e3 := rep16 v64 (fun _ => s) h64 concatenates_S8x128_S8x128_S8x128_S8x128_S8x128_S8x128_S8x128_S8x128_S8x128_S8x128_S8x128_S8x128_S8x128_S8x128_S8x128_S8x128_S128x128_d0
  unfold k1_pay11
  rw [e1, e2, e3]
  pointwise [kcode, rows, k1_pay6]
  rfl

/-- A row of 64 lanes put twice side by side and shrunk by a factor, at a lane. -/
def twice (v : FVec Ideal S1x1x64 .f32) (i : EReal) (l : Fin 128) : EReal := v (ix3 0 0 ⟨l.val % 64, Nat.mod_lt _ (by norm_num)⟩) * i

/-- A block of 64 rows beside a second one in the same 64 channels, at an index: lanes 0 to 63 are the first block's. -/
theorem pay7_at (v22 v29 : FVec Ideal S8x128 .f32) (v51 v53 : FVec Ideal S1x1x64 .f32) (v115 v119 : FVec Ideal S1x64x64 .bf16) (i s : EReal)
    (h29 : ∀ r l, v29 (ix2 r l) = i) (h22 : ∀ r l, v22 (ix2 r l) = s) (r : Fin 64) (l : Fin 128) :
    k1_pay7 v22 v29 v51 v53 v115 v119 (ix2 r l)
      = kcode (if h : l.val < 64 then v115 (ix3 0 r ⟨l.val, h⟩) else v119 (ix3 0 r ⟨l.val - 64, by omega⟩)) (twice v51 i l) (twice v53 i l) (s * ↑(-(Real.log 2)⁻¹)) := by
  unfold k1_pay7
  rw [rep8 _ (twice v51 i), rep8 _ (twice v53 i), rep8 (k1_pay5 v22) (fun _ => s * ↑(-(Real.log 2)⁻¹))]
  · pointwise [kcode, rowsB]
    rfl
  · intro r l
    pointwise [k1_pay5, named_log2e]
    rw [h22]
  · intro r l
    pointwise [twice]
    rw [h29]
    by_cases hl : l.val < 64
    · rw [dif_pos hl]
      congr 3
      exact Fin.ext (Nat.mod_eq_of_lt hl).symm
    · rw [dif_neg hl]
      congr 3
      exact Fin.ext (by show l.val - 64 = l.val % 64; omega)
  · intro r l
    pointwise [twice]
    rw [h29]
    by_cases hl : l.val < 64
    · rw [dif_pos hl]
      congr 3
      exact Fin.ext (Nat.mod_eq_of_lt hl).symm
    · rw [dif_neg hl]
      congr 3
      exact Fin.ext (by show l.val - 64 = l.val % 64; omega)

/-- The codes of the first 64 rows of a chunk in the last channel tile. -/
theorem pay8_at (v22 v29 : FVec Ideal S8x128 .f32) (v51 v53 : FVec Ideal S1x1x64 .f32) (v115 v119 : FVec Ideal S1x64x64 .bf16) (i s : EReal)
    (h29 : ∀ r l, v29 (ix2 r l) = i) (h22 : ∀ r l, v22 (ix2 r l) = s) (r l : Fin 64) :
    k1_pay8 v22 v29 v51 v53 v115 v119 (ix3 0 r l) = kcode (v115 (ix3 0 r l)) (v51 (ix3 0 0 l) * i) (v53 (ix3 0 0 l) * i) (s * ↑(-(Real.log 2)⁻¹)) := by
  have e := pay7_at v22 v29 v51 v53 v115 v119 i s h29 h22 r ⟨l.val, by omega⟩
  rw [dif_pos (by exact l.isLt)] at e
  have e2 : k1_pay8 v22 v29 v51 v53 v115 v119 (ix3 0 r l) = k1_pay7 v22 v29 v51 v53 v115 v119 (ix2 r ⟨l.val, by omega⟩) := by
    pointwise [k1_pay8]
  have e3 : ∀ v : FVec Ideal S1x1x64 .f32, twice v i ⟨l.val, by omega⟩ = v (ix3 0 0 l) * i := fun v => by
    unfold twice
    congr 3
    exact Fin.ext (Nat.mod_eq_of_lt l.isLt)
  rw [e2, e, e3, e3]

/-- The codes of the other 64 rows of a chunk in the last channel tile. -/
theorem pay9_at (v22 v29 : FVec Ideal S8x128 .f32) (v51 v53 : FVec Ideal S1x1x64 .f32) (v115 v119 : FVec Ideal S1x64x64 .bf16) (i s : EReal)
    (h29 : ∀ r l, v29 (ix2 r l) = i) (h22 : ∀ r l, v22 (ix2 r l) = s) (r l : Fin 64) :
    k1_pay9 v22 v29 v51 v53 v115 v119 (ix3 0 r l) = kcode (v119 (ix3 0 r l)) (v51 (ix3 0 0 l) * i) (v53 (ix3 0 0 l) * i) (s * ↑(-(Real.log 2)⁻¹)) := by
  have e := pay7_at v22 v29 v51 v53 v115 v119 i s h29 h22 r ⟨64 + l.val, by omega⟩
  rw [dif_neg (by simp)] at e
  have e2 : k1_pay9 v22 v29 v51 v53 v115 v119 (ix3 0 r l) = k1_pay7 v22 v29 v51 v53 v115 v119 (ix2 r ⟨64 + l.val, by omega⟩) := by
    unfold k1_pay9
    generalize k1_pay7 v22 v29 v51 v53 v115 v119 = w
    pointwise []
    congr 2
    exact Fin.ext (by show (l.val + 128 - 64) % 128 = 64 + l.val; omega)
  have e3 : ∀ v : FVec Ideal S1x1x64 .f32, twice v i ⟨64 + l.val, by omega⟩ = v (ix3 0 0 l) * i := fun v => by
    unfold twice
    congr 3
    exact Fin.ext (by show (64 + l.val) % 64 = l.val; omega)
  have e4 : (⟨64 + l.val - 64, by omega⟩ : Fin 64) = l := Fin.ext (by simp)
  rw [e2, e, e3, e3]
  simp only [e4]

section
variable (𝒱 : Variants) (c : Dev nD) (bd : Option 𝒱.V) (i : grid1.Coords)
  (arg1 : Memref sig .tc .vmem S1x9216x320 .bf16) (harg1 : arg1.IsWhole)
  (arg2 : Memref sig .tc .vmem S1x8x320 .f32) (harg2 : arg2.IsWhole)
  (arg3 : Memref sig .tc .vmem S14x8x320 .f32) (harg3 : arg3.IsWhole)
  (arg4 : Memref sig .tc .vmem S1x9216x320 .fp8e4m3) (harg4 : arg4.IsWhole)
  (arg5 : Memref sig .tc .vmem S8x128 .f32) (harg5 : arg5.IsWhole)

/-- The codes of an image block, whole: from the block, the two rows of coefficients, the inverse scale and the scale. -/
def codes (x : FVec Ideal S1x9216x320 .bf16) (a b : Fin 320 → EReal) (iv sc : EReal) : FVec Ideal S1x9216x320 .fp8e4m3 :=
  fun y => kcode (x y) (a (y 2) * iv) (b (y 2) * iv) (sc * ↑(-(Real.log 2)⁻¹))

set_option backward.isDefEq.respectTransparency false in
/-- Every store of one trip of the code loop holds its part of the codes. -/
theorem trip_codes (v22 v29 : FVec Ideal S8x128 .f32) (v32 : FVec Ideal S1x128 .f32) (v33 v41 v43 : FVec Ideal S1x1x128 .f32) (v51 v53 : FVec Ideal S1x1x64 .f32)
    (a b : Fin 320 → EReal) (iv sc : EReal) (h22 : ∀ r l, v22 (ix2 r l) = sc) (h29 : ∀ r l, v29 (ix2 r l) = iv)
    (h32 : ∀ l, v32 (ix2 0 l) = a ⟨l.val, by omega⟩) (h33 : ∀ l, v33 (ix3 0 0 l) = b ⟨l.val, by omega⟩)
    (h41 : ∀ l, v41 (ix3 0 0 l) = a ⟨128 + l.val, by omega⟩) (h43 : ∀ l, v43 (ix3 0 0 l) = b ⟨128 + l.val, by omega⟩)
    (h51 : ∀ l, v51 (ix3 0 0 l) = a ⟨256 + l.val, by omega⟩) (h53 : ∀ l, v53 (ix3 0 0 l) = b ⟨256 + l.val, by omega⟩)
    (X : BufTy.Contents (Elt Ideal) arg1.view.ty) (k : Fin k1_t2_loop.trips) :
    View.PiecesOf (codes (arg1.view.read (Elt Ideal) X) a b iv sc) (tripL_k1_t2 (F := Ideal) 𝒱 c bd i arg1 harg1 arg2 harg2 arg3 harg3 arg4 harg4 arg5 harg5 v22 v29 v32 v33 v41 v43 v51 v53 X k) := by
  unfold tripL_k1_t2 trip_k1_t2
  dsimp only
  refine ⟨?_, ?_, ?_, ?_, trivial⟩
  · intro x
    obtain ⟨r, l, rfl⟩ : ∃ (r : Fin 64) (l : Fin 64), x = ix3 0 r l := ⟨x 1, x 2, by idx_ext⟩
    have h2 : ((Rect.unit (s := S1x9216x320) (k1_off4 k) ![1, 64, 64] (k1_off4_inb k)).emb (ix3 0 r l)) 2 = (⟨256 + l.val, by omega⟩ : Fin 320) := Fin.ext (by
      show (k1_off4 k) 2 + 1 * l.val = _
      simp [k1_off4])
    refine (pay9_at _ _ _ _ _ _ iv sc h29 h22 r l).trans ?_
    show kcode _ _ _ _ = kcode _ (a (((Rect.unit (s := S1x9216x320) (k1_off4 k) ![1, 64, 64] (k1_off4_inb k)).emb (ix3 0 r l)) 2) * iv) (b (((Rect.unit (s := S1x9216x320) (k1_off4 k) ![1, 64, 64] (k1_off4_inb k)).emb (ix3 0 r l)) 2) * iv) _
    rw [h2, h51, h53]
    rfl
  · intro x
    obtain ⟨r, l, rfl⟩ : ∃ (r : Fin 64) (l : Fin 64), x = ix3 0 r l := ⟨x 1, x 2, by idx_ext⟩
    have h2 : ((Rect.unit (s := S1x9216x320) (k1_off3 k) ![1, 64, 64] (k1_off3_inb k)).emb (ix3 0 r l)) 2 = (⟨256 + l.val, by omega⟩ : Fin 320) := Fin.ext (by
      show (k1_off3 k) 2 + 1 * l.val = _
      simp [k1_off3])
    refine (pay8_at _ _ _ _ _ _ iv sc h29 h22 r l).trans ?_
    show kcode _ _ _ _ = kcode _ (a (((Rect.unit (s := S1x9216x320) (k1_off3 k) ![1, 64, 64] (k1_off3_inb k)).emb (ix3 0 r l)) 2) * iv) (b (((Rect.unit (s := S1x9216x320) (k1_off3 k) ![1, 64, 64] (k1_off3_inb k)).emb (ix3 0 r l)) 2) * iv) _
    rw [h2, h51, h53]
    rfl
  · intro x
    obtain ⟨r, l, rfl⟩ : ∃ (r : Fin 128) (l : Fin 128), x = ix3 0 r l := ⟨x 1, x 2, by idx_ext⟩
    have h2 : ((Rect.unit (s := S1x9216x320) (k1_off2 k) ![1, 128, 128] (k1_off2_inb k)).emb (ix3 0 r l)) 2 = (⟨128 + l.val, by omega⟩ : Fin 320) := Fin.ext (by
      show (k1_off2 k) 2 + 1 * l.val = _
      simp [k1_off2])
    refine (pay11_at _ _ _ _ (fun l => a ⟨128 + l.val, by omega⟩ * iv) (fun l => b ⟨128 + l.val, by omega⟩ * iv) (sc * ↑(-(Real.log 2)⁻¹)) (fun r l => by pointwise [k1_pay3]; rw [h41, h29]) (fun r l => by pointwise [k1_pay4]; rw [h43, h29]) (fun r l => by pointwise [k1_pay5, named_log2e]; rw [h22]) r l).trans ?_
    show kcode _ _ _ _ = kcode _ (a (((Rect.unit (s := S1x9216x320) (k1_off2 k) ![1, 128, 128] (k1_off2_inb k)).emb (ix3 0 r l)) 2) * iv) (b (((Rect.unit (s := S1x9216x320) (k1_off2 k) ![1, 128, 128] (k1_off2_inb k)).emb (ix3 0 r l)) 2) * iv) _
    rw [h2]
    rfl
  · intro x
    obtain ⟨r, l, rfl⟩ : ∃ (r : Fin 128) (l : Fin 128), x = ix3 0 r l := ⟨x 1, x 2, by idx_ext⟩
    have h2 : ((Rect.unit (s := S1x9216x320) (k1_off1 k) ![1, 128, 128] (k1_off1_inb k)).emb (ix3 0 r l)) 2 = (⟨l.val, by omega⟩ : Fin 320) := Fin.ext (by
      show (k1_off1 k) 2 + 1 * l.val = _
      simp [k1_off1])
    refine (pay10_at _ _ _ _ (fun l => a ⟨l.val, by omega⟩ * iv) (fun l => b ⟨l.val, by omega⟩ * iv) (sc * ↑(-(Real.log 2)⁻¹)) (fun r l => by pointwise [k1_pay1]; rw [h32, h29]) (fun r l => by pointwise [k1_pay2]; rw [h33, h29]) (fun r l => by pointwise [k1_pay5, named_log2e]; rw [h22]) r l).trans ?_
    show kcode _ _ _ _ = kcode _ (a (((Rect.unit (s := S1x9216x320) (k1_off1 k) ![1, 128, 128] (k1_off1_inb k)).emb (ix3 0 r l)) 2) * iv) (b (((Rect.unit (s := S1x9216x320) (k1_off1 k) ![1, 128, 128] (k1_off1_inb k)).emb (ix3 0 r l)) 2) * iv) _
    rw [h2]
    rfl

/-- All stores of the code loop hold their parts of the codes. -/
theorem loop_codes (v22 v29 : FVec Ideal S8x128 .f32) (v32 : FVec Ideal S1x128 .f32) (v33 v41 v43 : FVec Ideal S1x1x128 .f32) (v51 v53 : FVec Ideal S1x1x64 .f32)
    (a b : Fin 320 → EReal) (iv sc : EReal) (h22 : ∀ r l, v22 (ix2 r l) = sc) (h29 : ∀ r l, v29 (ix2 r l) = iv)
    (h32 : ∀ l, v32 (ix2 0 l) = a ⟨l.val, by omega⟩) (h33 : ∀ l, v33 (ix3 0 0 l) = b ⟨l.val, by omega⟩)
    (h41 : ∀ l, v41 (ix3 0 0 l) = a ⟨128 + l.val, by omega⟩) (h43 : ∀ l, v43 (ix3 0 0 l) = b ⟨128 + l.val, by omega⟩)
    (h51 : ∀ l, v51 (ix3 0 0 l) = a ⟨256 + l.val, by omega⟩) (h53 : ∀ l, v53 (ix3 0 0 l) = b ⟨256 + l.val, by omega⟩)
    (X : BufTy.Contents (Elt Ideal) arg1.view.ty) (n : ℕ) (hn : n ≤ k1_t2_loop.trips) :
    ∀ p ∈ pb_k1_t2 (F := Ideal) 𝒱 c bd i arg1 harg1 arg2 harg2 arg3 harg3 arg4 harg4 arg5 harg5 v22 v29 v32 v33 v41 v43 v51 v53 X n,
      ∀ x : p.1.shape.Idx, p.2 x = codes (arg1.view.read (Elt Ideal) X) a b iv sc (p.1.emb x) := by
  induction n with
  | zero => intro p hp; simp [pb_k1_t2] at hp
  | succ n ih =>
    intro p hp
    rw [pb_k1_t2_succ 𝒱 c bd i arg1 harg1 arg2 harg2 arg3 harg3 arg4 harg4 arg5 harg5 v22 v29 v32 v33 v41 v43 v51 v53 X ⟨n, hn⟩] at hp
    rcases List.mem_append.mp hp with hp | hp
    · exact (trip_codes 𝒱 c bd i arg1 harg1 arg2 harg2 arg3 harg3 arg4 harg4 arg5 harg5 v22 v29 v32 v33 v41 v43 v51 v53 a b iv sc h22 h29 h32 h33 h41 h43 h51 h53 X ⟨n, hn⟩).mem p hp
    · exact ih (by omega) p hp

section
variable (x0 : Vec Ideal S1x9216x320 .bf16) (x1 : Vec Ideal S1x8x320 .f32) (x2 : Vec Ideal S14x8x320 .f32) (w : EReal) (m : ℝ) (E : ℕ)
  (hw : ∀ n d, x2 (ix3 n 2 d) ≤ w) (hw' : ∃ n d, w = x2 (ix3 n 2 d)) (hmw : w * Ideal.ofBits .f32 0x3B124925#32 = (m : EReal))
  (h0 : (2 : ℝ) ^ ((E : ℤ) - 127) ≤ m) (h1 : m < (2 : ℝ) ^ ((E : ℤ) - 126)) (hE : 1 ≤ E) (hE' : E ≤ 252)
include hw hw' hmw h0 h1 hE hE'

/-- The scaled maximum of the loaded block of channel maxima. -/
theorem amax_at (r : Fin 8) (l : Fin 128) :
    (k1_pay12 (F := Ideal) (View.ld x2 (Rect.unit ![0, 2, 0] ![14, 1, 320] inb_S14x8x320_S14x1x320_0_2_0)) : FVec Ideal S8x128 .f32) (ix2 r l) = (m : EReal) := by
  have hl : ∀ n d, (View.ld x2 (Rect.unit ![0, 2, 0] ![14, 1, 320] inb_S14x8x320_S14x1x320_0_2_0) : FVec Ideal S14x1x320 .f32) (ix3 n 0 d) = x2 (ix3 n 2 d) := by
    intro n d
    pointwise []
  obtain ⟨w', ha, ⟨n, d, hb⟩, h⟩ := pay12_at (View.ld x2 (Rect.unit ![0, 2, 0] ![14, 1, 320] inb_S14x8x320_S14x1x320_0_2_0))
  have hww : w' = w := by
    refine le_antisymm ?_ ?_
    · rw [hb, hl]
      exact hw n d
    · obtain ⟨n', d', e⟩ := hw'
      rw [e, ← hl]
      exact ha n' d'
  rw [h, hww, hmw]

/-- The block of codes that one grid point of the second kernel leaves. -/
theorem out1_codes :
    out1_A_3 (F := Ideal) c i arg1 harg1 arg2 harg2 arg3 harg3 arg4 harg4 arg5 harg5 x0 x1 x2
      = codes x0 (fun d => x1 (ix3 0 0 d)) (fun d => x1 (ix3 0 1 d)) (((2 : ℝ) ^ (126 - (E : ℤ)) : ℝ) : EReal) (((2 : ℝ) ^ ((E : ℤ) - 126) : ℝ) : EReal) := by
  funext y
  have hcov := cover1_A_3 (F := Ideal) c i arg1 harg1 arg2 harg2 arg3 harg3 arg4 harg4 arg5 harg5 x0 x1 x2 y
  revert hcov
  frame_out
  intro hcov
  have hm := amax_at x2 w m E hw hw' hmw h0 h1 hE hE'
  have hx : x0 = arg1.view.read (Elt Ideal) (harg1.unread x0) := (harg1.read_unread x0).symm
  conv_rhs => rw [hx]
  refine View.canon_apply_of_pieces _ _ (loop_codes Variants.none c none i arg1 harg1 arg2 harg2 arg3 harg3 arg4 harg4 arg5 harg5 _ _ _ _ _ _ _ _ _ _ _ _
    (pay16_at _ m E h0 h1 hE hE' hm) (pay17_at _ m E h0 h1 hE hE' hm) ?_ ?_ ?_ ?_ ?_ ?_ _ _ le_rfl) y hcov
  all_goals intro l
  all_goals pointwise [k1_pay18]

/-- The scale that one grid point of the second kernel leaves. -/
theorem out1_scale (r : Fin 8) (l : Fin 128) :
    out1_A_4 (F := Ideal) c i arg1 harg1 arg2 harg2 arg3 harg3 arg4 harg4 arg5 harg5 x0 x1 x2 (ix2 r l) = (((2 : ℝ) ^ ((E : ℤ) - 126) : ℝ) : EReal) := by
  frame_out
  exact pay16_at _ m E h0 h1 hE hE' (amax_at x2 w m E hw hw' hmw h0 h1 hE hE') r l

end

end

end Cert.KernelIdeal.Value
-- ==== Proof.Arrays.lean ====
module

public import proofs.«01_k».proof.Proof.Gen.KernelIdeal.Frame
public import proofs.«01_k».proof.Proof.Codes
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- Image `n` of the batch. -/
def img (X : FVec Ideal S14x9216x320 .bf16) (n : Fin 14) : FVec Ideal S1x9216x320 .bf16 := fun y => X (ix3 n (y 1) (y 2))

/-- The time row of image `n`. -/
def trow (T : FVec Ideal S14x1x320 .bf16) (n : Fin 14) : FVec Ideal S1x1x320 .bf16 := fun y => T (ix3 n 0 (y 2))

/-- What the first kernel leaves in the coefficient array, at image `n` and channel `d`. -/
def CoefAt (X : FVec Ideal S14x9216x320 .bf16) (T : FVec Ideal S14x1x320 .bf16) (ga be : FVec Ideal S1x320 .f32) (g : FVec Ideal S320x320 .f32)
    (n : Fin 14) (d : Fin 320) (r : Fin 8) (v : EReal) : Prop :=
  (r = 0 → v = ka (img X n) (trow T n) ga g d) ∧ (r = 1 → v = kb (img X n) (trow T n) ga be g d) ∧
  (r = 2 → ∃ mx mn, TopOf mx (fun s => px (img X n) s d.val) 9216 ∧ BotOf mn (fun s => px (img X n) s d.val) 9216 ∧
    v = max (kabs (ksilu (mx * ka (img X n) (trow T n) ga g d + kb (img X n) (trow T n) ga be g d)))
            (kabs (ksilu (mn * ka (img X n) (trow T n) ga g d + kb (img X n) (trow T n) ga be g d))))

/-- The blocks of the first kernel's windows, point by point. -/
theorem idx0 : ∀ t : Fin cfg0.N, win0_0.index t = ![t.val, 0, 0] ∧ win0_1.index t = ![t.val, 0, 0] ∧ win0_2.index t = ![0, 0] ∧ win0_3.index t = ![0, 0]
    ∧ win0_4.index t = ![0, 0] ∧ win0_5.index t = ![0, 0] ∧ win0_6.index t = ![t.val, 0, 0] :=
  (by decide +kernel : ∀ t : Fin grid0.N, _)

/-- The blocks of the second kernel's windows, point by point. -/
theorem idx1 : ∀ t : Fin cfg1.N, win1_0.index t = ![t.val, 0, 0] ∧ win1_1.index t = ![t.val, 0, 0] ∧ win1_2.index t = ![0, 0, 0] ∧ win1_3.index t = ![t.val, 0, 0]
    ∧ win1_4.index t = ![0, 0] :=
  (by decide +kernel : ∀ t : Fin grid1.N, _)

variable (V : (c : Dev nD) → (b : Ref sig .tc) → Buf (Elt Ideal) ((c : Thread nD τ).loc b)) (c : Dev nD)

/-- The staged image block of point `t` is image `t`. -/
theorem blk0_0 (t : Fin cfg0.N) (ht : t.val < 14) : iblk0 V c 0 t = img (V c main_arg0) ⟨t.val, ht⟩ := by
  funext y
  unfold img
  blk_ext [iblk0, idx0 t]

theorem blk0_1 (t : Fin cfg0.N) (ht : t.val < 14) : iblk0 V c 1 t = trow (V c main_v9) ⟨t.val, ht⟩ := by
  funext y
  unfold trow
  blk_ext [iblk0, idx0 t]

theorem blk0_2 (t : Fin cfg0.N) : iblk0 V c 2 t = V c main_v10 := by
  funext y
  blk_ext [iblk0, idx0 t]

theorem blk0_3 (t : Fin cfg0.N) : iblk0 V c 3 t = V c main_v11 := by
  funext y
  blk_ext [iblk0, idx0 t]

theorem blk0_4 (t : Fin cfg0.N) : iblk0 V c 4 t = V c main_v7 := by
  funext y
  blk_ext [iblk0, idx0 t]

theorem blk0_5 (t : Fin cfg0.N) : iblk0 V c 5 t = V c main_v8 := by
  funext y
  blk_ext [iblk0, idx0 t]

/-- The coefficient array after the first kernel. -/
theorem coefs (h5 : ∀ r l, (V c main_v8 : FVec Ideal S16x256 .bf16) (ix2 r l) = (1 : EReal)) (i : S14x8x320.Idx) :
    CoefAt (V c main_arg0) (V c main_v9) (V c main_v10) (V c main_v11) (V c main_v7) (i 0) (i 2) (i 1) ((dat0 V c).arrAt 6 cfg0.N i) := by
  refine (dat0 V c).arrAt_forall_of_covers 6 (fun i v => CoefAt (V c main_arg0) (V c main_v9) (V c main_v10) (V c main_v11) (V c main_v7) (i 0) (i 2) (i 1) v) (by decide +kernel) (fun t hf y => ?_) i
  have ht : t.val < 14 := t.isLt
  blk_simp [idx0 t]
  rw [after0_6]
  have e0 : (win0_6.blk t).view.emb y 0 = (⟨t.val, ht⟩ : Fin 14) := by
    apply Fin.ext
    have hy : (y 0).val < 1 := (y 0).isLt
    blk_point [idx0 t]
  have e1 : (win0_6.blk t).view.emb y 1 = (⟨(y 1).val, (y 1).isLt⟩ : Fin 8) := by
    apply Fin.ext
    blk_point [idx0 t]
  have e2 : (win0_6.blk t).view.emb y 2 = (⟨(y 2).val, (y 2).isLt⟩ : Fin 320) := by
    apply Fin.ext
    blk_point [idx0 t]
  rw [e0, e1, e2]
  unfold outsAt0
  rw [blk0_0 V c t ht, blk0_1 V c t ht, blk0_2, blk0_3, blk0_4, blk0_5]
  obtain ⟨z0, z1, mx, mn, hx, hn, z2⟩ := out0_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (img (V c main_arg0) ⟨t.val, ht⟩) (trow (V c main_v9) ⟨t.val, ht⟩) (V c main_v10) (V c main_v11) (V c main_v7) (V c main_v8) h5 ⟨(y 2).val, (y 2).isLt⟩
  have hy : ∀ r : Fin 8, (⟨(y 1).val, (y 1).isLt⟩ : Fin 8) = r → y = ix3 (0 : Fin 1) r (⟨(y 2).val, (y 2).isLt⟩ : Fin 320) := by
    intro r hr
    have hy : (y 0).val < 1 := (y 0).isLt
    subst hr
    funext k
    match k with
    | ⟨0, _⟩ => exact Fin.ext (by show (y 0).val = 0; omega)
    | ⟨1, _⟩ => rfl
    | ⟨2, _⟩ => rfl
  refine ⟨fun hr => ?_, fun hr => ?_, fun hr => ⟨mx, mn, hx, hn, ?_⟩⟩
  · rw [hy 0 hr]; exact z0
  · rw [hy 1 hr]; exact z1
  · rw [hy 2 hr]; exact z2

variable (Z : FVec Ideal S14x8x320 .f32) (hZ : V c main_v12 = Z)
  (w : EReal) (m : ℝ) (E : ℕ) (hw : ∀ n d, Z (ix3 n 2 d) ≤ w)
  (hw' : ∃ n d, w = Z (ix3 n 2 d))
  (hmw : w * Ideal.ofBits .f32 0x3B124925#32 = (m : EReal)) (h0 : (2:ℝ)^((E:ℤ)-127) ≤ m) (h1 : m < (2:ℝ)^((E:ℤ)-126)) (hE : 1 ≤ E) (hE' : E ≤ 252)
include hZ

/-- The second kernel's image block of point `t`. -/
theorem blk1_1 (t : Fin cfg1.N) (ht : t.val < 14) (r : Fin 8) (d : Fin 320) : (iblk1 V c 1 t : FVec Ideal S1x8x320 .f32) (ix3 0 r d) = Z (ix3 ⟨t.val, ht⟩ r d) := by
  rw [← hZ]
  blk_ext [iblk1, idx1 t]

theorem blk1_2 (t : Fin cfg1.N) : iblk1 V c 2 t = Z := by
  rw [← hZ]
  funext y
  blk_ext [iblk1, idx1 t]

include hw hw' hmw h0 h1 hE hE'

/-- The codes after the second kernel, at each index. -/
theorem codes_arr :
    (dat1 V c).arrAt 3 cfg1.N = fun i : S14x9216x320.Idx => kcode ((V c main_arg0 : FVec Ideal S14x9216x320 .bf16) i)
      (Z (ix3 (i 0) 0 (i 2)) * (((2:ℝ)^(126-(E:ℤ)) : ℝ) : EReal))
      (Z (ix3 (i 0) 1 (i 2)) * (((2:ℝ)^(126-(E:ℤ)) : ℝ) : EReal))
      ((((2:ℝ)^((E:ℤ)-126) : ℝ) : EReal) * ((-(Real.log 2)⁻¹ : ℝ) : EReal)) := by
  refine (dat1 V c).arrAt_eq_of_covers 3 _ (by decide +kernel) fun t hf y => ?_
  have ht : t.val < 14 := t.isLt
  blk_simp [idx1 t]
  rw [after1_3]
  have e0 : (win1_3.blk t).view.emb y 0 = (⟨t.val, ht⟩ : Fin 14) := by
    apply Fin.ext
    have hy : (y 0).val < 1 := (y 0).isLt
    blk_point [idx1 t]
  have e2 : (win1_3.blk t).view.emb y 2 = (⟨(y 2).val, (y 2).isLt⟩ : Fin 320) := by
    apply Fin.ext
    blk_point [idx1 t]
  rw [e0, e2]
  show (outsAt1 V c t).1 y = _
  unfold outsAt1
  rw [blk1_2 V c Z hZ t]
  dsimp only
  rw [out1_codes c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) Z w m E hw hw' hmw h0 h1 hE hE']
  unfold codes
  refine congr (congr (congr (congrArg kcode ?_) (congrArg (· * (((2:ℝ)^(126-(E:ℤ)) : ℝ) : EReal)) (blk1_1 V c Z hZ t ht 0 _)))
    (congrArg (· * (((2:ℝ)^(126-(E:ℤ)) : ℝ) : EReal)) (blk1_1 V c Z hZ t ht 1 _))) rfl
  blk_ext [iblk1, idx1 t]

/-- The scale after the second kernel. -/
theorem scale_arr :
    (dat1 V c).arrAt 4 cfg1.N = fun _ : S8x128.Idx => (((2:ℝ)^((E:ℤ)-126) : ℝ) : EReal) := by
  refine (dat1 V c).arrAt_eq_of_covers 4 _ (by decide +kernel) fun t hf y => ?_
  blk_simp [idx1 t]
  rw [after1_4]
  unfold outsAt1
  rw [blk1_2 V c Z hZ t]
  dsimp only
  have hy : y = ix2 (⟨(y 0).val, (y 0).isLt⟩ : Fin 8) (⟨(y 1).val, (y 1).isLt⟩ : Fin 128) := by
    funext k
    match k with
    | ⟨0, _⟩ => rfl
    | ⟨1, _⟩ => rfl
  rw [hy]
  exact out1_scale c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) Z w m E hw hw' hmw h0 h1 hE hE' _ _

end Cert.KernelIdeal.Value
-- ==== Proof.Math.lean ====
module

public import Idealize.ShloMosaic.Lib.Pointwise
public import Idealize.ShloMosaic.Lib.Pipeline.ValueKit

@[expose] public section

set_option maxRecDepth 16384

noncomputable section

namespace Cert.RealFacts

/-- The activation on the reals: `v` times the logistic function of `v`. -/
def sil (v : ℝ) : ℝ := v / (1 + Real.exp (-v))

theorem one_add_exp_pos (v : ℝ) : 0 < 1 + Real.exp v := by positivity

/-- Below zero the activation never exceeds `0.28` in absolute value: the tangent of the exponential at `1.278` says so. -/
theorem dip (u : ℝ) : u ≤ 0.28 * (1 + Real.exp u) := by
  have h1 : (25/7 : ℝ) ≤ Real.exp 1.278 := by
    have := Real.sum_le_exp_of_nonneg (x := (1.278 : ℝ)) (by norm_num) 8
    refine le_trans ?_ this
    norm_num [Finset.sum_range_succ, Nat.factorial]
  have h2 : u - 1.278 + 1 ≤ Real.exp (u - 1.278) := Real.add_one_le_exp _
  have h3 : Real.exp u = Real.exp (u - 1.278) * Real.exp 1.278 := by rw [← Real.exp_add]; congr 1; ring
  have h4 := Real.exp_pos u
  rcases le_total u 0.278 with h | h
  · linarith
  · have h5 : (u - 0.278) * (25/7) ≤ Real.exp u := by
      rw [h3]
      exact mul_le_mul (by linarith) h1 (by norm_num) (Real.exp_pos _).le
    linarith

theorem sil_neg (v : ℝ) (h : v ≤ 0) : |sil v| ≤ 0.28 := by
  unfold sil
  rw [abs_div, abs_of_pos (one_add_exp_pos (-v)), div_le_iff₀ (one_add_exp_pos (-v)), abs_of_nonpos h]
  have := dip (-v)
  have := one_add_exp_pos (-v)
  nlinarith

/-- Above zero the activation grows. -/
theorem sil_mono (v w : ℝ) (h : 0 ≤ v) (hw : v ≤ w) : |sil v| ≤ |sil w| := by
  unfold sil
  rw [abs_of_nonneg (div_nonneg h (one_add_exp_pos _).le), abs_of_nonneg (div_nonneg (h.trans hw) (one_add_exp_pos _).le)]
  refine div_le_div₀ (h.trans hw) hw (one_add_exp_pos _) ?_
  have := Real.exp_le_exp.mpr (neg_le_neg hw)
  linarith

/-- Between two points the activation is bounded by its values there and `0.28`. -/
theorem sil_between (v v0 v1 : ℝ) (h0 : v0 ≤ v) (h1 : v ≤ v1) : |sil v| ≤ max 0.28 (max |sil v1| |sil v0|) := by
  rcases le_total v 0 with h | h
  · exact (sil_neg v h).trans (le_max_left _ _)
  · exact (sil_mono v v1 h h1).trans ((le_max_left _ _).trans (le_max_right _ _))

/-- The same for the image of an interval under an affine map of either sign. -/
theorem sil_affine (a b x x0 x1 : ℝ) (h0 : x0 ≤ x) (h1 : x ≤ x1) :
    |sil (x * a + b)| ≤ max 0.28 (max |sil (x1 * a + b)| |sil (x0 * a + b)|) := by
  rcases le_total 0 a with h | h
  · exact sil_between _ _ _ (by nlinarith) (by nlinarith)
  · rw [max_comm |sil (x1 * a + b)|]
    exact sil_between _ _ _ (by nlinarith) (by nlinarith)

/-- The mean over pixels and channels of a group, from the channel means. -/
theorem mean_group (f : Fin 9216 → Fin 10 → ℝ) (t : Fin 10 → ℝ) :
    (∑ s, ∑ k, (f s k + t k)) * (1/92160) = (∑ k, ((∑ s, f s k) * (1/9216) + t k)) * (1/10) := by
  rw [Finset.sum_comm]
  have : ∀ k, ∑ s, (f s k + t k) = ((∑ s, f s k) * (1/9216) + t k) * 9216 := fun k => by
    rw [Finset.sum_add_distrib]
    simp
    ring
  simp only [this]
  rw [← Finset.sum_mul]
  ring

/-- The variance over pixels and channels of a group, from the channel means and the channel means of squares. -/
theorem var_group (f : Fin 9216 → Fin 10 → ℝ) (t : Fin 10 → ℝ) (μ : ℝ) :
    (∑ s, ∑ k, (f s k + t k - μ) * (f s k + t k - μ)) * (1/92160)
      = (∑ k, ((∑ s, f s k * f s k) * (1/9216) - (∑ s, f s k) * (1/9216) * ((∑ s, f s k) * (1/9216))
          + ((∑ s, f s k) * (1/9216) + t k - μ) * ((∑ s, f s k) * (1/9216) + t k - μ))) * (1/10) := by
  rw [Finset.sum_comm]
  have : ∀ k, ∑ s, (f s k + t k - μ) * (f s k + t k - μ) = ((∑ s, f s k * f s k) * (1/9216) - (∑ s, f s k) * (1/9216) * ((∑ s, f s k) * (1/9216))
          + ((∑ s, f s k) * (1/9216) + t k - μ) * ((∑ s, f s k) * (1/9216) + t k - μ)) * 9216 := fun k => by
    have : ∀ s, (f s k + t k - μ) * (f s k + t k - μ) = f s k * f s k + f s k * (2 * (t k - μ)) + (t k - μ) * (t k - μ) := fun s => by ring
    simp only [this]
    rw [Finset.sum_add_distrib, Finset.sum_add_distrib, ← Finset.sum_mul]
    simp
    ring
  simp only [this]
  rw [← Finset.sum_mul]
  ring

/-- A sum against the indicator of a channel's group is the sum over the ten channels of the group. -/
theorem group_sum (row : Fin 320 → ℝ) (d : Fin 320) :
    (∑ k : Fin 320, row k * (if k.val / 10 = d.val / 10 then (1:ℝ) else 0)) = ∑ j : Fin 10, row ⟨d.val / 10 * 10 + j.val, by omega⟩ := by
  simp only [mul_ite, mul_one, mul_zero]
  rw [← Finset.sum_filter]
  symm
  refine Finset.sum_bij (fun j _ => (⟨d.val / 10 * 10 + j.val, by omega⟩ : Fin 320)) ?_ ?_ ?_ ?_
  · intro j _
    rw [Finset.mem_filter]
    exact ⟨Finset.mem_univ _, by show (d.val / 10 * 10 + j.val) / 10 = _; omega⟩
  · intro j _ j' _ h
    have := congrArg Fin.val h
    apply Fin.ext
    dsimp only at this
    omega
  · intro k hk
    rw [Finset.mem_filter] at hk
    exact ⟨⟨k.val % 10, by omega⟩, Finset.mem_univ _, Fin.ext (by show d.val / 10 * 10 + k.val % 10 = k.val; omega)⟩
  · intro j _
    rfl

/-- The power of two at or below a positive real. -/
theorem floor_log (m : ℝ) (hm : 0 < m) :
    (2:ℝ) ^ ⌊Real.log m / Real.log 2⌋ ≤ m ∧ m < (2:ℝ) ^ (⌊Real.log m / Real.log 2⌋ + 1) := by
  have hl : 0 < Real.log 2 := Real.log_pos (by norm_num)
  have e : ∀ k : ℤ, (2:ℝ) ^ k = Real.exp (Real.log 2 * k) := fun k => by
    rw [← Real.rpow_intCast, Real.rpow_def_of_pos (by norm_num)]
  constructor
  · rw [e, ← Real.le_log_iff_exp_le hm, mul_comm, ← le_div_iff₀ hl]
    exact Int.floor_le _
  · rw [e, ← Real.log_lt_iff_lt_exp hm, mul_comm, ← div_lt_iff₀ hl]
    push_cast
    exact Int.lt_floor_add_one _

/-- The exponent of a real in the range between `2 ^ (-126)` and `2 ^ 125`. -/
theorem exponent (m : ℝ) (h0 : (2:ℝ) ^ (-126 : ℤ) ≤ m) (h1 : m < (2:ℝ) ^ (125 : ℤ)) :
    ∃ E : ℕ, (2:ℝ) ^ ((E:ℤ) - 127) ≤ m ∧ m < (2:ℝ) ^ ((E:ℤ) - 126) ∧ 1 ≤ E ∧ E ≤ 252 ∧ (E:ℤ) - 126 = ⌊Real.log m / Real.log 2⌋ + 1 := by
  have hm : 0 < m := lt_of_lt_of_le (by positivity) h0
  obtain ⟨a, b⟩ := floor_log m hm
  generalize ⌊Real.log m / Real.log 2⌋ = e at a b
  have l0 : (-126 : ℤ) < e + 1 := (zpow_lt_zpow_iff_right₀ (by norm_num : (1:ℝ) < 2)).mp (lt_of_le_of_lt h0 b)
  have l1 : e < 125 := (zpow_lt_zpow_iff_right₀ (by norm_num : (1:ℝ) < 2)).mp (lt_of_le_of_lt a h1)
  obtain ⟨E, hE⟩ := Int.eq_ofNat_of_zero_le (show 0 ≤ e + 127 by omega)
  refine ⟨E, ?_, ?_, by omega, by omega, by omega⟩
  · rw [show (E:ℤ) - 127 = e by omega]; exact a
  · rw [show (E:ℤ) - 126 = e + 1 by omega]; exact b

/-- A power of two to a multiple of the reciprocal logarithm of two is an exponential. -/
theorem two_pow_exp (v : ℝ) : Real.rpow 2 (v * (-(Real.log 2)⁻¹)) = Real.exp (-v) := by
  have hl : Real.log 2 ≠ 0 := (Real.log_pos (by norm_num)).ne'
  show (2:ℝ) ^ (v * (-(Real.log 2)⁻¹)) = _
  rw [Real.rpow_def_of_pos (by norm_num)]
  congr 1
  field_simp

end Cert.RealFacts
-- ==== Proof.RealKernel.lean ====
module

public import proofs.«01_k».proof.Proof.Arrays
public import proofs.«01_k».proof.Proof.Math

@[expose] public section

set_option maxRecDepth 16384

noncomputable section

namespace Cert.RealFacts

open Idealize.ShloMosaic

/-! The group normalisation over the reals. -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable (X : Fin 14 → Fin 9216 → Fin 320 → ℝ) (T : Fin 14 → Fin 320 → ℝ) (G : Fin 320 → ℝ)

/-- Channel `k` of group `g`. -/
abbrev ch (g : Fin 32) (k : Fin 10) : Fin 320 := ⟨g.val * 10 + k.val, by omega⟩

/-- The group of a channel. -/
abbrev grp (d : Fin 320) : Fin 32 := ⟨d.val / 10, by omega⟩

/-- The mean of a group. -/
def mean (n : Fin 14) (g : Fin 32) : ℝ := (∑ s : Fin 9216, ∑ k : Fin 10, (X n s (ch g k) + T n (ch g k))) * (1/92160)

/-- The variance of a group. -/
def var (n : Fin 14) (g : Fin 32) : ℝ :=
  (∑ s : Fin 9216, ∑ k : Fin 10, (X n s (ch g k) + T n (ch g k) - mean X T n g) * (X n s (ch g k) + T n (ch g k) - mean X T n g)) * (1/92160)

/-- The reciprocal of a group's standard deviation. -/
def inv (n : Fin 14) (g : Fin 32) : ℝ := (Real.sqrt (var X T n g + 2748779/274877906944))⁻¹

theorem var_nonneg (n : Fin 14) (g : Fin 32) : 0 ≤ var X T n g :=
  mul_nonneg (Finset.sum_nonneg fun s _ => Finset.sum_nonneg fun k _ => mul_self_nonneg _) (by norm_num)

theorem eps_bits : Ideal.ofBits .f32 0x3727C5AC#32 = ((2748779/274877906944 : ℝ) : EReal) := by
  simp [Ideal.ofBits, Ideal.ieee, -EReal.coe_mul]
  norm_num

theorem rsqrt_var (n : Fin 14) (g : Fin 32) : Ideal.rsqrt (((var X T n g : ℝ) : EReal) + Ideal.ofBits .f32 0x3727C5AC#32) = ((inv X T n g : ℝ) : EReal) := by
  have h := var_nonneg X T n g
  rw [eps_bits, ← EReal.coe_add, Ideal.rsqrt_coe, if_neg (by linarith), if_neg (by linarith)]
  rfl

/-! Infinities in sums. -/

/-- An infinite value. -/
def Inf (a : EReal) : Prop := a = ⊤ ∨ a = ⊥

theorem inf_add {a : EReal} (b : EReal) (h : Inf a) : Inf (a + b) := by
  rcases h with rfl | rfl
  · by_cases hb : b = ⊥
    · exact Or.inr (by rw [hb, EReal.add_bot])
    · exact Or.inl (EReal.top_add_of_ne_bot hb)
  · exact Or.inr (EReal.bot_add b)

theorem inf_neg {a : EReal} (h : Inf a) : Inf (-a) := by
  rcases h with rfl | rfl
  · exact Or.inr EReal.neg_top
  · exact Or.inl EReal.neg_bot

theorem inf_sub (a : EReal) {b : EReal} (h : Inf b) : Inf (a - b) := by
  rw [sub_eq_add_neg, add_comm]
  exact inf_add _ (inf_neg h)

theorem inf_mul {a : EReal} (h : Inf a) {c : ℝ} (hc : 0 < c) : Inf (a * ((c : ℝ) : EReal)) := by
  rcases h with rfl | rfl
  · exact Or.inl (EReal.top_mul_coe_of_pos hc)
  · exact Or.inr (EReal.bot_mul_coe_of_pos hc)

theorem inf_sq {a : EReal} (h : Inf a) : a * a = ⊤ := by
  rcases h with rfl | rfl
  · exact EReal.top_mul_top
  · exact EReal.bot_mul_bot

/-- A sum with an infinite term is infinite. -/
theorem inf_sum {ι : Type*} {s : Finset ι} {f : ι → EReal} {i : ι} (hi : i ∈ s) (h : Inf (f i)) : Inf (∑ i ∈ s, f i) := by
  classical
  rw [← Finset.add_sum_erase s f hi]
  exact inf_add _ h

theorem sum_ne_bot {ι : Type*} (s : Finset ι) (f : ι → EReal) (h : ∀ i, f i ≠ ⊥) : ∑ i ∈ s, f i ≠ ⊥ := by
  classical
  induction s using Finset.induction_on with
  | empty => exact EReal.zero_ne_bot
  | insert a s ha ih =>
    rw [Finset.sum_insert ha]
    exact fun e => (EReal.add_eq_bot_iff.mp e).elim (h a) ih

/-- A sum with a term `⊤` and none `⊥` is `⊤`. -/
theorem top_sum {ι : Type*} {s : Finset ι} {f : ι → EReal} {i : ι} (hi : i ∈ s) (h : ∀ i, f i ≠ ⊥) (ht : f i = ⊤) : ∑ i ∈ s, f i = ⊤ := by
  classical
  rw [← Finset.add_sum_erase s f hi, ht]
  exact EReal.top_add_of_ne_bot (sum_ne_bot _ _ h)

/-- The maximum of two reals, as extended reals. -/
theorem coe_max (a b : ℝ) : max ((a : ℝ) : EReal) ((b : ℝ) : EReal) = ((max a b : ℝ) : EReal) :=
  (EReal.coe_strictMono.monotone.map_max).symm

end Cert.RealFacts

namespace Cert.KernelIdeal.Value

open Idealize.ShloMosaic Idealize.ShloMosaic.TcCoe Idealize.SL.Sem
open Cert.KernelIdeal Cert.KernelIdeal.Gen Cert.RealFacts

/-! The first kernel's coefficients over the reals. -/

variable (X : Fin 14 → Fin 9216 → Fin 320 → ℝ) (T : Fin 14 → Fin 320 → ℝ) (G : Fin 320 → ℝ)
variable (x : FVec Ideal S14x9216x320 .bf16) (tt : FVec Ideal S14x1x320 .bf16) (ga : FVec Ideal S1x320 .f32) (g : FVec Ideal S320x320 .f32)
variable (hx : ∀ n s d, x (ix3 n s d) = ((X n s d : ℝ) : EReal))
variable (hga : ∀ d, ga (ix2 0 d) = ((G d : ℝ) : EReal))
variable (hg : ∀ i j : Fin 320, g (ix2 i j) = if i.val / 10 = j.val / 10 then (1 : EReal) else 0)

include hx in
theorem px_real (n : Fin 14) (s : Fin 9216) (d : Fin 320) : px (img x n) s.val d.val = ((X n s d : ℝ) : EReal) := by
  unfold px img
  rw [dif_pos ⟨s.isLt, d.isLt⟩]
  exact hx n s d

include hx in
theorem kmc_real (n : Fin 14) (d : Fin 320) : kmc (img x n) d.val = (((∑ s, X n s d) * (1/9216) : ℝ) : EReal) := by
  unfold kmc
  rw [Finset.sum_range, EReal.coe_mul, ← coe_sum]
  simp only [px_real X x hx]

include hx in
theorem ksq_real (n : Fin 14) (d : Fin 320) : ksq (img x n) d.val = (((∑ s, X n s d * X n s d) * (1/9216) : ℝ) : EReal) := by
  unfold ksq
  rw [Finset.sum_range, EReal.coe_mul, ← coe_sum]
  simp only [px_real X x hx, EReal.coe_mul]

include hg in
theorem kgm_real (row : Fin 320 → EReal) (r : Fin 320 → ℝ) (d : Fin 320) (h : ∀ k : Fin 320, k.val / 10 = d.val / 10 → row k = ((r k : ℝ) : EReal)) :
    kgm g row d = (((∑ k : Fin 10, r (ch (grp d) k)) * (1/10) : ℝ) : EReal) := by
  unfold kgm
  rw [EReal.coe_mul, ← group_sum r d, ← coe_sum]
  refine congrArg (· * ((1 / 10 : ℝ) : EReal)) (Finset.sum_congr rfl fun k _ => ?_)
  rw [hg]
  by_cases e : k.val / 10 = d.val / 10
  · rw [if_pos e, if_pos e, mul_one, mul_one, h k e]
  · rw [if_neg e, if_neg e, mul_zero, mul_zero]
    rfl

theorem grp_ch (d : Fin 320) (k : Fin 10) : grp (ch (grp d) k) = grp d := Fin.ext (by show (d.val / 10 * 10 + k.val) / 10 = d.val / 10; omega)

section
variable (n : Fin 14) (d : Fin 320) (ht : ∀ k : Fin 320, k.val / 10 = d.val / 10 → tt (ix3 n 0 k) = ((T n k : ℝ) : EReal))

include hx hg ht in
theorem kmean_real : kmean (img x n) (trow tt n) g d = ((mean X T n (grp d) : ℝ) : EReal) := by
  unfold kmean
  rw [kgm_real g hg _ (fun k => (∑ s, X n s k) * (1/9216) + T n k) d fun k e => by
    rw [kmc_real X x hx, show trow tt n (ix3 0 0 k) = _ from ht k e, EReal.coe_add]]
  unfold mean
  rw [mean_group (fun s k => X n s (ch (grp d) k)) (fun k => T n (ch (grp d) k))]

include hx hg ht in
theorem kvar_real : kvar (img x n) (trow tt n) g d = ((var X T n (grp d) : ℝ) : EReal) := by
  unfold kvar
  rw [kgm_real g hg _ (fun k => (∑ s, X n s k * X n s k) * (1/9216) - (∑ s, X n s k) * (1/9216) * ((∑ s, X n s k) * (1/9216))
        + ((∑ s, X n s k) * (1/9216) + T n k - mean X T n (grp k)) * ((∑ s, X n s k) * (1/9216) + T n k - mean X T n (grp k))) d fun k e => by
      rw [kmc_real X x hx, ksq_real X x hx, show trow tt n (ix3 0 0 k) = _ from ht k e, kmean_real X T x tt g hx hg n k fun j e' => ht j (e'.trans e)]
      simp only [EReal.coe_add, EReal.coe_mul, EReal.coe_sub]]
  unfold var
  rw [var_group (fun s k => X n s (ch (grp d) k)) (fun k => T n (ch (grp d) k)) (mean X T n (grp d))]
  simp only [grp_ch]

include hx hg hga ht in
/-- The factor of a channel in a group with a real time row. -/
theorem ka_real : ka (img x n) (trow tt n) ga g d = ((G d * inv X T n (grp d) : ℝ) : EReal) := by
  unfold ka
  rw [kvar_real X T x tt g hx hg n d ht, rsqrt_var, hga, EReal.coe_mul]

include hx hg hga ht in
/-- What the offset of a channel adds to the shift, in a group with a real time row. -/
theorem ko_real : (trow tt n (ix3 0 0 d) - kmean (img x n) (trow tt n) g d) * ka (img x n) (trow tt n) ga g d
    = (((T n d - mean X T n (grp d)) * (G d * inv X T n (grp d)) : ℝ) : EReal) := by
  rw [ka_real X T G x tt ga g hx hga hg n d ht, kmean_real X T x tt g hx hg n d ht, show trow tt n (ix3 0 0 d) = _ from ht d rfl]
  simp only [EReal.coe_mul, EReal.coe_sub]

end

section
variable (n : Fin 14) (d k0 : Fin 320) (hk0 : k0.val / 10 = d.val / 10) (hinf : Inf (tt (ix3 n 0 k0)))

include hx hg hk0 hinf in
theorem kmean_inf : Inf (kmean (img x n) (trow tt n) g d) := by
  unfold kmean kgm
  refine inf_mul (inf_sum (i := k0) (Finset.mem_univ k0) ?_) (by norm_num)
  rw [hg, if_pos hk0, mul_one]
  show Inf (kmc (img x n) k0.val + tt (ix3 n 0 k0))
  rw [add_comm]
  exact inf_add _ hinf

include hx hg hk0 hinf in
theorem kvar_inf : kvar (img x n) (trow tt n) g d = ⊤ := by
  have key : ∀ k : Fin 320, k.val / 10 = d.val / 10 → ksq (img x n) k.val - kmc (img x n) k.val * kmc (img x n) k.val
      + (kmc (img x n) k.val + trow tt n (ix3 0 0 k) - kmean (img x n) (trow tt n) g k) * (kmc (img x n) k.val + trow tt n (ix3 0 0 k) - kmean (img x n) (trow tt n) g k) = ⊤ := fun k e => by
    rw [inf_sq (inf_sub _ (kmean_inf X x tt g hx hg n k k0 (hk0.trans e.symm) hinf)), kmc_real X x hx, ksq_real X x hx, ← EReal.coe_mul, ← EReal.coe_sub]
    exact EReal.coe_add_top _
  unfold kvar kgm
  rw [top_sum (i := d) (Finset.mem_univ d)]
  · exact EReal.top_mul_coe_of_pos (by norm_num)
  · intro k
    rw [hg]
    by_cases e : k.val / 10 = d.val / 10
    · rw [if_pos e, mul_one]
      exact (key k e).trans_ne top_ne_bot
    · rw [if_neg e, mul_zero]
      exact EReal.zero_ne_bot
  · rw [hg, if_pos rfl, mul_one]
    exact key d rfl

include hx hg hk0 hinf in
/-- An infinity in the time row of a group makes the factors of its channels zero. -/
theorem ka_inf : ka (img x n) (trow tt n) ga g d = 0 := by
  unfold ka
  rw [kvar_inf X x tt g hx hg n d k0 hk0 hinf, eps_bits, EReal.top_add_coe, Ideal.rsqrt_top, mul_zero]

end

/-- The kernel's activation of a real. -/
theorem ksilu_real (v : ℝ) : ksilu ((v : ℝ) : EReal) = ((sil v : ℝ) : EReal) := by
  unfold ksilu sil
  rw [← EReal.coe_mul, Ideal.exp2_coe, two_pow_exp, ← EReal.coe_one, ← EReal.coe_add, Ideal.div_coe (one_add_exp_pos (-v)).ne', ← EReal.coe_mul]
  congr 1
  ring

/-- The kernel's magnitude of a real. -/
theorem kabs_real (v : ℝ) : kabs ((v : ℝ) : EReal) = ((|v| : ℝ) : EReal) := by
  show max ((v : ℝ) : EReal) (-((v : ℝ) : EReal)) = _
  rw [← EReal.coe_neg, ← EReal.coe_strictMono.monotone.map_max]
  rfl

end Cert.KernelIdeal.Value
-- ==== Proof.RefTerm.lean ====
module

public import proofs.«01_k».proof.Proof.Gen.ReferenceIdeal.Run
public import proofs.«01_k».proof.Proof.Gen.Pre_in_range
public import proofs.«01_k».proof.Pre_in_range
public import Idealize.ShloMosaic.Lib.Claim
public import Idealize.ShloMosaic.Lib.ReduceAll
public import Idealize.ShloMosaic.Lib.Pointwise

@[expose] public section

set_option maxRecDepth 16384

noncomputable section

namespace Cert.ReferenceIdeal.Act

open Idealize.ShloMosaic Idealize.ShloMosaic.TcCoe Idealize.SL.Sem
open Cert.ReferenceIdeal Cert.ReferenceIdeal.Gen Cert.ReferenceIdeal.Facts

/-- The sum of image and time row, its channels split into groups. -/
def hid (x : FVec Ideal S14x9216x320 .bf16) (t : FVec Ideal S14x320 .bf16) : FVec Ideal S14x9216x32x10 .f32 :=
  shapeCast S14x9216x32x10 (addf (extf .f32 x bitsLt_bf16_f32) (broadcastInDim S14x9216x320 ![0, 1, 2] bcast_S14x1x320_S14x9216x320_0_1_2
    (broadcastInDim S14x1x320 ![0, 2] bcast_S14x320_S14x1x320_0_2 (extf .f32 t bitsLt_bf16_f32)))) shapeCasts_S14x9216x320_S14x9216x32x10

/-- The mean over the pixels and channels of each group. -/
def avg (h : FVec Ideal S14x9216x32x10 .f32) : FVec Ideal S14x1x32x1 .f32 :=
  Host.divf (broadcastInDim S14x1x32x1 ![0, 2] bcast_S14x32_S14x1x32x1_0_2 (Host.reduceAdd h (constant S_ .f32 0x00000000#32) reducesTo_S14x9216x32x10_S14x32_d1_3 h_S_))
    (broadcastInDim S14x1x32x1 ![] bcast_S_S14x1x32x1 (constant S_ .f32 0x47B40000#32))

/-- The deviation from the mean. -/
def dev (h : FVec Ideal S14x9216x32x10 .f32) : FVec Ideal S14x9216x32x10 .f32 :=
  subf h (broadcastInDim S14x9216x32x10 ![0, 1, 2, 3] bcast_S14x1x32x1_S14x9216x32x10_0_1_2_3 (avg h))

/-- The normalised value, scaled and shifted. -/
def nrm (d : FVec Ideal S14x9216x32x10 .f32) (ga be : FVec Ideal S320 .f32) : FVec Ideal S14x9216x320 .f32 :=
  addf (mulf (shapeCast S14x9216x320 (mulf d (broadcastInDim S14x9216x32x10 ![0, 1, 2, 3] bcast_S14x1x32x1_S14x9216x32x10_0_1_2_3
      (Host.rsqrt (addf (avg (mulf d d)) (broadcastInDim S14x1x32x1 ![] bcast_S_S14x1x32x1 (constant S_ .f32 0x3727C5AC#32)))))) shapeCasts_S14x9216x32x10_S14x9216x320)
    (broadcastInDim S14x9216x320 ![0, 1, 2] bcast_S1x1x320_S14x9216x320_0_1_2 (broadcastInDim S1x1x320 ![2] bcast_S320_S1x1x320_2 ga)))
    (broadcastInDim S14x9216x320 ![0, 1, 2] bcast_S1x1x320_S14x9216x320_0_1_2 (broadcastInDim S1x1x320 ![2] bcast_S320_S1x1x320_2 be))

/-- A value times the logistic function of it. -/
def act (v : FVec Ideal S14x9216x320 .f32) : FVec Ideal S14x9216x320 .f32 :=
  mulf v (Host.divf (broadcastInDim S14x9216x320 ![] bcast_S_S14x9216x320 (constant S_ .f32 0x3F800000#32))
    (addf (broadcastInDim S14x9216x320 ![] bcast_S_S14x9216x320 (constant S_ .f32 0x3F800000#32)) (Host.exp (Host.negf v))))

/-- The activation of the arguments. -/
def full (x : FVec Ideal S14x9216x320 .bf16) (t : FVec Ideal S14x320 .bf16) (ga be : FVec Ideal S320 .f32) : FVec Ideal S14x9216x320 .f32 :=
  act (nrm (dev (hid x t)) ga be)

/-- The largest absolute value. -/
def top (y : FVec Ideal S14x9216x320 .f32) : FVec Ideal S_ .f32 :=
  Host.reduce FloatOps.maximumf (Host.absf y) (constant S_ .f32 0xFF800000#32) reducesTo_S14x9216x320_S_d0_1_2 h_S_

/-- The exponent of the scale. -/
def expo (a : FVec Ideal S_ .f32) : FVec Ideal S_ .f32 :=
  select (cmpf .oeq a (constant S_ .f32 0x00000000#32)) (constant S_ .f32 0x00000000#32)
    (addf (Host.floor (Host.divf (Host.log (mulf a (constant S_ .f32 0x3B124925#32))) (Host.log (constant S_ .f32 0x40000000#32)))) (constant S_ .f32 0x3F800000#32))

/-- The code of an activation under a reciprocal scale. -/
def rcode (y s : EReal) : EReal := min (Ideal.ofBits .f32 0x43E00000#32) (max (Ideal.ofBits .f32 0xC3E00000#32) (y * s))

/-- Each activation times the reciprocal scale, clipped and converted. -/
def quant (y : FVec Ideal S14x9216x320 .f32) (s : FVec Ideal S_ .f32) : FVec Ideal S14x9216x320 .fp8e4m3 :=
  Host.convertf .fp8e4m3 (minimumf (broadcastInDim S14x9216x320 ![] bcast_S_S14x9216x320 (constant S_ .f32 0x43E00000#32))
    (maximumf (broadcastInDim S14x9216x320 ![] bcast_S_S14x9216x320 (constant S_ .f32 0xC3E00000#32))
      (mulf y (broadcastInDim S14x9216x320 ![] bcast_S_S14x9216x320 s))))

theorem quant_at (y : FVec Ideal S14x9216x320 .f32) (s : FVec Ideal S_ .f32) (i : S14x9216x320.Idx) : quant y s i = rcode (y i) (s ix0) := by
  unfold quant
  rw [show s = fun _ => s ix0 from funext fun j => congrArg s (funext fun a => a.elim0)]
  rfl

variable (m : (ℓ : Loc nD τ sig) → Buf (Elt Ideal) ℓ) (c : Dev nD)

/-- The reference's scale. -/
theorem host_scale : Value.res_out1 (F := Ideal) m c = Host.powf (constant S_ .f32 0x40000000#32)
    (expo (top (full (m ((c : Thread nD τ).loc main_arg0)) (m ((c : Thread nD τ).loc main_arg1)) (m ((c : Thread nD τ).loc main_arg2)) (m ((c : Thread nD τ).loc main_arg3))))) := by
  unfold Value.res_out1 Value.res_main_v53_1
  rfl

/-- The reference's codes. -/
theorem host_codes : Value.res_out0 (F := Ideal) m c = quant
    (full (m ((c : Thread nD τ).loc main_arg0)) (m ((c : Thread nD τ).loc main_arg1)) (m ((c : Thread nD τ).loc main_arg2)) (m ((c : Thread nD τ).loc main_arg3)))
    (Host.powf (constant S_ .f32 0x40000000#32)
    (Host.negf (expo (top (full (m ((c : Thread nD τ).loc main_arg0)) (m ((c : Thread nD τ).loc main_arg1)) (m ((c : Thread nD τ).loc main_arg2)) (m ((c : Thread nD τ).loc main_arg3))))))) := by
  unfold Value.res_out0 Value.res_main_v53_0
  rfl

/-- The reference runs to its end, leaves its arguments as they were, and has no semaphore to leave raised. -/
theorem frame (ρ : Dev nD → PrngReg) : θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 := by
  refine (θ_run defs _ _).mono (fun r h => ⟨fun c => ⟨(h c).2.2.1, (h c).2.2.2.1, (h c).2.2.2.2.1, (h c).2.2.2.2.2⟩, ?_⟩) (Value.run m ρ)
  funext g
  obtain ⟨t, sm⟩ := g
  cases sm with
  | reg s => exact s.elim0
  | dma s => exact s.elim0

end Cert.ReferenceIdeal.Act
-- ==== Proof.RefRead.lean ====
module

public import proofs.«01_k».proof.Proof.RefTerm

@[expose] public section

set_option maxRecDepth 16384

noncomputable section

namespace Cert.ReferenceIdeal.Act

open Idealize.ShloMosaic Idealize.ShloMosaic.TcCoe Idealize.SL.Sem
open Cert.ReferenceIdeal Cert.ReferenceIdeal.Gen Cert.ReferenceIdeal.Facts

/-! The reference's activation read index by index. -/

/-- The source indices that drop to a given image and group. -/
theorem fiber (h : S14x9216x32x10.ReducesTo [1, 3] S14x32) (j : S14x32.Idx) (i : S14x9216x32x10.Idx) :
    h.drop i = j ↔ ∃ k : Fin 9216 × Fin 10, (ix4 (j 0) k.1 (j 1) k.2 : S14x9216x32x10.Idx) = i := by
  constructor
  · intro e
    refine ⟨(i 1, i 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- A sum over pixels and channels of a group. -/
theorem sum_group (h : S14x9216x32x10.ReducesTo [1, 3] S14x32) (v : FVec Ideal S14x9216x32x10 .f32) (init : EReal) (j : S14x32.Idx) :
    Ideal.hostReduceAdd h v init j = init + ∑ s : Fin 9216, ∑ k : Fin 10, v (ix4 (j 0) s (j 1) k) := by
  refine congrArg (init + ·) ?_
  refine (Finset.sum_filter_eq_sum_of_fiber _ (fun k : Fin 9216 × Fin 10 => (ix4 (j 0) k.1 (j 1) k.2 : S14x9216x32x10.Idx))
    (fun _ _ e => Prod.ext (congrFun e 1) (congrFun e 3)) (fiber h j) v).trans ?_
  simp only [Fintype.sum_prod_type]

/-- Channel `k` of group `g`. -/
abbrev chan (g : Fin 32) (k : Fin 10) : Fin 320 := ⟨g.val * 10 + k.val, by omega⟩

theorem hid_at (x : FVec Ideal S14x9216x320 .bf16) (t : FVec Ideal S14x320 .bf16) (n : Fin 14) (s : Fin 9216) (g : Fin 32) (k : Fin 10) :
    hid x t (ix4 n s g k) = x (ix3 n s (chan g k)) + t (ix2 n (chan g k)) := by
  pointwise [hid]

theorem avg_at (h : FVec Ideal S14x9216x32x10 .f32) (n : Fin 14) (g : Fin 32) :
    avg h (ix4 n 0 g 0) = Ideal.div (0 + ∑ s : Fin 9216, ∑ k : Fin 10, h (ix4 n s g k)) (Ideal.ofBits .f32 0x47B40000#32) := by
  pointwise [avg, sum_group, Ideal.hostReduceAdd_def]

theorem dev_at (h : FVec Ideal S14x9216x32x10 .f32) (n : Fin 14) (s : Fin 9216) (g : Fin 32) (k : Fin 10) :
    dev h (ix4 n s g k) = h (ix4 n s g k) - avg h (ix4 n 0 g 0) := by
  unfold dev
  generalize avg h = a
  pointwise []

theorem nrm_at (d : FVec Ideal S14x9216x32x10 .f32) (ga be : FVec Ideal S320 .f32) (n : Fin 14) (s : Fin 9216) (g : Fin 32) (k : Fin 10) :
    nrm d ga be (ix3 n s (chan g k)) = d (ix4 n s g k) * Ideal.rsqrt (avg (mulf d d) (ix4 n 0 g 0) + Ideal.ofBits .f32 0x3727C5AC#32) * ga (ix1 (chan g k)) + be (ix1 (chan g k)) := by
  unfold nrm
  generalize avg (mulf d d) = a
  pointwise []
  have e1 : (⟨(g.val * 10 + k.val) / 10, by omega⟩ : Fin 32) = g := Fin.ext (by show (g.val * 10 + k.val) / 10 = g.val; omega)
  have e2 : (⟨(g.val * 10 + k.val) % 10, by omega⟩ : Fin 10) = k := Fin.ext (by show (g.val * 10 + k.val) % 10 = k.val; omega)
  rw [e1, e2]

theorem act_at (v : FVec Ideal S14x9216x320 .f32) (i : S14x9216x320.Idx) :
    act v i = v i * Ideal.div 1 (1 + Ideal.exp (-(v i))) := by
  pointwise [act]

theorem top_at (y : FVec Ideal S14x9216x320 .f32) (j : S_.Idx) :
    (∀ i, FloatOps.absf (F := Ideal) (φ := .f32) (y i) ≤ top y j) ∧ ∃ i, top y j = FloatOps.absf (F := Ideal) (φ := .f32) (y i) := by
  have e : top y j = Finset.univ.fold max ⊥ fun k : Fin 14 × Fin 9216 × Fin 320 => FloatOps.absf (F := Ideal) (φ := .f32) (y (ix3 k.1 k.2.1 k.2.2)) := by
    pointwise [top]
    rw [show Ideal.ofBits .f32 0xFF800000#32 = ⊥ by simp [Ideal.ofBits, Ideal.ieee]]
  have e' : ∀ f : Fin 14 × Fin 9216 × Fin 320 → EReal, Finset.univ.fold max ⊥ f = Finset.univ.sup f := fun _ => rfl
  rw [e, e']
  constructor
  · intro i
    have := Finset.le_sup (f := fun k : Fin 14 × Fin 9216 × Fin 320 => (FloatOps.absf (F := Ideal) (φ := .f32) (y (ix3 k.1 k.2.1 k.2.2)) : EReal)) (Finset.mem_univ (i 0, i 1, i 2))
    refine le_trans (le_of_eq ?_) this
    refine congrArg (fun i => FloatOps.absf (F := Ideal) (φ := .f32) (y i)) ?_
    funext a
    match a with
    | ⟨0, _⟩ => rfl
    | ⟨1, _⟩ => rfl
    | ⟨2, _⟩ => rfl
  · obtain ⟨r, -, h⟩ := Finset.exists_mem_eq_sup Finset.univ Finset.univ_nonempty (fun k : Fin 14 × Fin 9216 × Fin 320 => (FloatOps.absf (F := Ideal) (φ := .f32) (y (ix3 k.1 k.2.1 k.2.2)) : EReal))
    exact ⟨_, h⟩

end Cert.ReferenceIdeal.Act
-- ==== Proof.RealRef.lean ====
module

public import proofs.«01_k».proof.Proof.RealKernel
public import proofs.«01_k».proof.Proof.RefRead

@[expose] public section

set_option maxRecDepth 16384

noncomputable section

namespace Cert.ReferenceIdeal.Act

open Idealize.ShloMosaic Idealize.ShloMosaic.TcCoe Idealize.SL.Sem
open Cert.ReferenceIdeal Cert.ReferenceIdeal.Gen Cert.ReferenceIdeal.Facts Cert.RealFacts

/-! The reference over the reals. -/

variable (X : Fin 14 → Fin 9216 → Fin 320 → ℝ) (T : Fin 14 → Fin 320 → ℝ) (G : Fin 320 → ℝ)
variable (x : FVec Ideal S14x9216x320 .bf16) (t : FVec Ideal S14x320 .bf16) (ga be : FVec Ideal S320 .f32)
variable (hx : ∀ n s d, x (ix3 n s d) = ((X n s d : ℝ) : EReal)) (hga : ∀ d, ga (ix1 d) = ((G d : ℝ) : EReal))

theorem count_bits : Ideal.ofBits .f32 0x47B40000#32 = ((92160 : ℝ) : EReal) := by
  simp [Ideal.ofBits, Ideal.ieee, -EReal.coe_mul]
  norm_num

/-- The mean of real values is real. -/
theorem avg_real (h : FVec Ideal S14x9216x32x10 .f32) (f : Fin 9216 → Fin 10 → ℝ) (n : Fin 14) (g : Fin 32)
    (hf : ∀ s k, h (ix4 n s g k) = ((f s k : ℝ) : EReal)) : avg h (ix4 n 0 g 0) = (((∑ s, ∑ k, f s k) * (1/92160) : ℝ) : EReal) := by
  rw [avg_at, count_bits, Ideal.div_coe (by norm_num), zero_add, EReal.coe_mul, ← coe_sum]
  simp only [← coe_sum, hf]

section
variable (n : Fin 14) (g : Fin 32) (ht : ∀ k, t (ix2 n (ch g k)) = ((T n (ch g k) : ℝ) : EReal))

include hx ht in
theorem hid_real (s : Fin 9216) (k : Fin 10) :
    hid x t (ix4 n s g k) = ((X n s (ch g k) + T n (ch g k) : ℝ) : EReal) := by
  rw [hid_at, hx, ht, EReal.coe_add]

include hx ht in
theorem dev_real (s : Fin 9216) (k : Fin 10) :
    dev (hid x t) (ix4 n s g k) = ((X n s (ch g k) + T n (ch g k) - mean X T n g : ℝ) : EReal) := by
  rw [dev_at, avg_real (hid x t) _ n g (hid_real X T x t hx n g ht), hid_real X T x t hx n g ht, EReal.coe_sub]
  rfl

include hx ht in
theorem var_real :
    avg (mulf (dev (hid x t)) (dev (hid x t))) (ix4 n 0 g 0) = ((var X T n g : ℝ) : EReal) := by
  refine avg_real _ (fun s k => (X n s (ch g k) + T n (ch g k) - mean X T n g) * (X n s (ch g k) + T n (ch g k) - mean X T n g)) n g fun s k => ?_
  show dev (hid x t) (ix4 n s g k) * dev (hid x t) (ix4 n s g k) = _
  rw [dev_real X T x t hx n g ht, EReal.coe_mul]

end

/-- A channel is a channel of its group. -/
theorem chan_grp (d : Fin 320) : d = chan (grp d) ⟨d.val % 10, by omega⟩ := Fin.ext (by show d.val = d.val / 10 * 10 + d.val % 10; omega)

include hx hga in
/-- The normalised value in a group with a real time row. -/
theorem nrm_real (n : Fin 14) (s : Fin 9216) (d : Fin 320) (ht : ∀ k, t (ix2 n (ch (grp d) k)) = ((T n (ch (grp d) k) : ℝ) : EReal)) :
    nrm (dev (hid x t)) ga be (ix3 n s d) = (((X n s d + T n d - mean X T n (grp d)) * inv X T n (grp d) * G d : ℝ) : EReal) + be (ix1 d) := by
  refine (congrArg (fun d => nrm (dev (hid x t)) ga be (ix3 n s d)) (chan_grp d)).trans ?_
  rw [nrm_at, var_real X T x t hx n _ ht, dev_real X T x t hx n _ ht, rsqrt_var, hga]
  rw [← EReal.coe_mul, ← EReal.coe_mul]
  have e' : ch (grp d) ⟨d.val % 10, by omega⟩ = d := (chan_grp d).symm
  rw [e', ← chan_grp d]

section
variable (n : Fin 14) (g : Fin 32) (k0 : Fin 10) (hinf : Inf (t (ix2 n (ch g k0))))

theorem avg_pos (a : EReal) : Ideal.div (0 + a) (Ideal.ofBits .f32 0x47B40000#32) = a * ((1/92160 : ℝ) : EReal) := by
  rw [count_bits, Ideal.div_coe (by norm_num), zero_add]

include hinf in
theorem dev_inf (s : Fin 9216) (k : Fin 10) : Inf (dev (hid x t) (ix4 n s g k)) := by
  rw [dev_at, avg_at, avg_pos]
  refine inf_sub _ (inf_mul (inf_sum (i := s) (Finset.mem_univ s) (inf_sum (i := k0) (Finset.mem_univ k0) ?_)) (by norm_num))
  rw [hid_at, add_comm]
  exact inf_add _ hinf

include hinf in
theorem var_inf : avg (mulf (dev (hid x t)) (dev (hid x t))) (ix4 n 0 g 0) = ⊤ := by
  have key : ∀ s k, mulf (dev (hid x t)) (dev (hid x t)) (ix4 n s g k) = ⊤ := fun s k => inf_sq (dev_inf x t n g k0 hinf s k)
  have hs : ∀ s : Fin 9216, ∑ k : Fin 10, mulf (dev (hid x t)) (dev (hid x t)) (ix4 n s g k) = ⊤ := fun s =>
    top_sum (i := k0) (Finset.mem_univ k0) (fun k => (key s k).trans_ne top_ne_bot) (key s k0)
  rw [avg_at, avg_pos, top_sum (i := (0 : Fin 9216)) (Finset.mem_univ _) (fun s => (hs s).trans_ne top_ne_bot) (hs 0)]
  exact EReal.top_mul_coe_of_pos (by norm_num)

end

/-- An infinity in the time row of a group leaves the shift alone of the normalised value. -/
theorem nrm_inf (n : Fin 14) (s : Fin 9216) (d : Fin 320) (k0 : Fin 10) (hinf : Inf (t (ix2 n (ch (grp d) k0)))) :
    nrm (dev (hid x t)) ga be (ix3 n s d) = be (ix1 d) := by
  refine (congrArg (fun d => nrm (dev (hid x t)) ga be (ix3 n s d)) (chan_grp d)).trans ?_
  rw [nrm_at, var_inf x t n _ k0 hinf, eps_bits, EReal.top_add_coe, Ideal.rsqrt_top, mul_zero, zero_mul, zero_add, ← chan_grp d]

/-- A value times its logistic. -/
theorem act_real (v : FVec Ideal S14x9216x320 .f32) (i : S14x9216x320.Idx) (r : ℝ) (h : v i = ((r : ℝ) : EReal)) : act v i = ((sil r : ℝ) : EReal) := by
  rw [act_at, h, ← EReal.coe_neg, Ideal.exp_coe, ← EReal.coe_one, ← EReal.coe_add, Ideal.div_coe (one_add_exp_pos (-r)).ne', ← EReal.coe_mul, ← EReal.coe_mul]
  unfold sil
  congr 1
  ring

/-- A value `⊥` times its logistic. -/
theorem act_bot (v : FVec Ideal S14x9216x320 .f32) (i : S14x9216x320.Idx) (h : v i = ⊥) : act v i = 0 := by
  rw [act_at, h, EReal.neg_bot, Ideal.exp_top, ← EReal.coe_one, EReal.coe_add_top]
  simp [Ideal.div]

/-- A value `⊤` times its logistic. -/
theorem act_top (v : FVec Ideal S14x9216x320 .f32) (i : S14x9216x320.Idx) (h : v i = ⊤) : act v i = ⊤ := by
  rw [act_at, h, EReal.neg_top, Ideal.exp_bot, add_zero, ← EReal.coe_one, Ideal.div_coe (by norm_num), ← EReal.coe_mul]
  exact EReal.top_mul_coe_of_pos (by norm_num)

section
variable (y : FVec Ideal S14x9216x320 .f32) (v : Fin 14 → Fin 9216 → Fin 320 → ℝ) (hy : ∀ n s d, y (ix3 n s d) = ((sil (v n s d) : ℝ) : EReal))

include hy in
/-- The largest absolute value: a bound, and one of the values. -/
theorem top_real (j : S_.Idx) : ∃ A : ℝ, top y j = ((A : ℝ) : EReal) ∧ (∀ n s d, |sil (v n s d)| ≤ A) ∧ ∃ n s d, A = |sil (v n s d)| := by
  obtain ⟨hle, i, hi⟩ := top_at y j
  have habs : ∀ n s d, FloatOps.absf (F := Ideal) (φ := .f32) (y (ix3 n s d)) = ((|sil (v n s d)| : ℝ) : EReal) := fun n s d => by
    rw [hy]
    show max ((sil (v n s d) : ℝ) : EReal) (-((sil (v n s d) : ℝ) : EReal)) = _
    rw [← EReal.coe_neg, coe_max]
    rfl
  have ei : i = ix3 (i 0) (i 1) (i 2) := by
    funext a
    match a with
    | ⟨0, _⟩ => rfl
    | ⟨1, _⟩ => rfl
    | ⟨2, _⟩ => rfl
  rw [ei] at hi
  refine ⟨_, hi.trans (habs (i 0) (i 1) (i 2)), fun n s d => ?_, _, _, _, rfl⟩
  have := hle (ix3 n s d)
  rw [hi] at this
  exact EReal.coe_le_coe_iff.mp (((habs n s d).symm.le.trans this).trans (habs (i 0) (i 1) (i 2)).le)

end

theorem coef_bits : Ideal.ofBits .f32 0x3B124925#32 = ((9586981/4294967296 : ℝ) : EReal) := by
  simp [Ideal.ofBits, Ideal.ieee, -EReal.coe_mul]
  norm_num

theorem two_bits : Ideal.ofBits .f32 0x40000000#32 = ((2 : ℝ) : EReal) := by
  simp [Ideal.ofBits, Ideal.ieee, -EReal.coe_mul]
  norm_num

/-- The exponent of a positive largest value. -/
theorem expo_real (a : FVec Ideal S_ .f32) (j : S_.Idx) (A : ℝ) (h : a j = ((A : ℝ) : EReal)) (hA : 0 < A) :
    expo a j = (((⌊Real.log (A * (9586981/4294967296)) / Real.log 2⌋ + 1 : ℤ) : ℝ) : EReal) := by
  have hl : Real.log 2 ≠ 0 := (Real.log_pos (by norm_num)).ne'
  pointwise [expo, h, coef_bits, two_bits]
  have hA' : ((A : ℝ) : EReal) ≠ 0 := by
    rw [← EReal.coe_zero]
    exact fun e => hA.ne' (EReal.coe_injective e)
  have hm : 0 < A * (9586981/4294967296) := by positivity
  rw [if_neg hA', ← EReal.coe_mul, Ideal.log_coe, if_neg (not_le.mpr hm), Ideal.log_coe, if_neg (by norm_num), Ideal.div_coe hl, ← EReal.coe_mul,
    Ideal.liftRound_coe, mul_one_div, ← EReal.coe_one, ← EReal.coe_add]
  push_cast
  rfl

/-- Two to a whole power. -/
theorem scale_real (e : FVec Ideal S_ .f32) (j : S_.Idx) (k : ℤ) (h : e j = (((k : ℤ) : ℝ) : EReal)) :
    Host.powf (constant S_ .f32 0x40000000#32) e j = (((2:ℝ) ^ k : ℝ) : EReal) := by
  pointwise [h, two_bits]
  rw [Ideal.pow_coe_coe]
  exact congrArg _ (Real.rpow_intCast 2 k)

theorem inv_real (e : FVec Ideal S_ .f32) (k : ℤ) (h : ∀ j, e j = (((k : ℤ) : ℝ) : EReal)) (i : S_.Idx) :
    Host.powf (constant S_ .f32 0x40000000#32) (Host.negf e) i = (((2:ℝ) ^ (-k) : ℝ) : EReal) := by
  refine scale_real _ _ _ ?_
  show -(e _) = _
  rw [h, ← EReal.coe_neg, Int.cast_neg]

end Cert.ReferenceIdeal.Act
-- ==== Proof.Equal.lean ====
module

public import proofs.«01_k».proof.Proof.RealRef

@[expose] public section

set_option maxRecDepth 16384

noncomputable section

namespace Cert.KernelIdeal.Value

open Idealize.ShloMosaic Idealize.ShloMosaic.TcCoe Idealize.SL.Sem
open Cert.KernelIdeal Cert.KernelIdeal.Gen Cert.RealFacts
open Cert.ReferenceIdeal.Act (hid dev nrm full top rcode)

/-! The kernel's coefficients, its largest value and its codes are the reference's. -/

variable (X : Fin 14 → Fin 9216 → Fin 320 → ℝ) (G : Fin 320 → ℝ)
variable (x : FVec Ideal S14x9216x320 .bf16) (tt : FVec Ideal S14x1x320 .bf16) (ga be : FVec Ideal S1x320 .f32) (g : FVec Ideal S320x320 .f32)
variable (t : FVec Ideal S14x320 .bf16) (gr br : FVec Ideal S320 .f32)
variable (hx : ∀ n s d, x (ix3 n s d) = ((X n s d : ℝ) : EReal)) (ht : ∀ n d, tt (ix3 n 0 d) = t (ix2 n d))
variable (hga : ∀ d, ga (ix2 0 d) = ((G d : ℝ) : EReal)) (hgr : ∀ d, gr (ix1 d) = ((G d : ℝ) : EReal)) (hbe : ∀ d, be (ix2 0 d) = br (ix1 d))
variable (hg : ∀ i j : Fin 320, g (ix2 i j) = if i.val / 10 = j.val / 10 then (1 : EReal) else 0)
variable (Z : FVec Ideal S14x8x320 .f32) (hZ : ∀ n r d, CoefAt x tt ga be g n d r (Z (ix3 n r d)))

include hx ht hga hgr hbe hg in
/-- The normalised value is the shift and a real affine value of the pixel, with the kernel's factor, whatever the time row holds. -/
theorem affine (n : Fin 14) (d : Fin 320) : ∃ f o : ℝ, ka (img x n) (trow tt n) ga g d = ((f : ℝ) : EReal) ∧
    kb (img x n) (trow tt n) ga be g d = br (ix1 d) + ((o : ℝ) : EReal) ∧
    ∀ s, nrm (dev (hid x t)) gr br (ix3 n s d) = ((X n s d * f + o : ℝ) : EReal) + br (ix1 d) := by
  by_cases h : ∃ k : Fin 10, Inf (t (ix2 n (ch (grp d) k)))
  · obtain ⟨k0, hk⟩ := h
    have e0 : (ch (grp d) k0).val / 10 = d.val / 10 := congrArg Fin.val (grp_ch d k0)
    have a0 := ka_inf X x tt ga g hx hg n d (ch (grp d) k0) e0 ((ht n _).symm ▸ hk)
    refine ⟨0, 0, a0.trans EReal.coe_zero.symm, ?_, fun s => ?_⟩
    · unfold kb
      rw [a0, mul_zero, hbe, EReal.coe_zero]
    · rw [ReferenceIdeal.Act.nrm_inf x t gr br n s d k0 hk, mul_zero, add_zero, EReal.coe_zero, zero_add]
  · have hr : ∀ k : Fin 10, t (ix2 n (ch (grp d) k)) = (((t (ix2 n (ch (grp d) k))).toReal : ℝ) : EReal) := fun k =>
      (EReal.coe_toReal (fun e => h ⟨k, Or.inl e⟩) (fun e => h ⟨k, Or.inr e⟩)).symm
    let T : Fin 14 → Fin 320 → ℝ := fun n d => (t (ix2 n d)).toReal
    have hT : ∀ k : Fin 320, k.val / 10 = d.val / 10 → tt (ix3 n 0 k) = ((T n k : ℝ) : EReal) := fun k e => by
      have ek : k = ch (grp d) ⟨k.val % 10, by omega⟩ := Fin.ext (by show k.val = d.val / 10 * 10 + k.val % 10; omega)
      rw [ht, ek]
      exact hr _
    refine ⟨G d * inv X T n (grp d), (T n d - mean X T n (grp d)) * (G d * inv X T n (grp d)), ka_real X T G x tt ga g hx hga hg n d hT, ?_, fun s => ?_⟩
    · unfold kb
      rw [ko_real X T G x tt ga g hx hga hg n d hT, hbe]
    · rw [ReferenceIdeal.Act.nrm_real X T G x t gr br hx hgr n s d hr]
      congr 2
      ring

/-- A real factor `f` and a real offset `o` describe a channel: the reference's activation, the kernel's activation and the kernel's
    code of each pixel are those of the real number `pixel * f + o`. -/
def Fits (n : Fin 14) (d : Fin 320) (f o : ℝ) : Prop :=
  (∀ s, full x t gr br (ix3 n s d) = ((sil (X n s d * f + o) : ℝ) : EReal)) ∧
  (∀ s, ksilu (((X n s d : ℝ) : EReal) * ka (img x n) (trow tt n) ga g d + kb (img x n) (trow tt n) ga be g d) = ((sil (X n s d * f + o) : ℝ) : EReal)) ∧
  ∀ s (E : ℤ), kcode ((X n s d : ℝ) : EReal) (ka (img x n) (trow tt n) ga g d * (((2:ℝ) ^ (126 - E) : ℝ) : EReal))
      (kb (img x n) (trow tt n) ga be g d * (((2:ℝ) ^ (126 - E) : ℝ) : EReal)) ((((2:ℝ) ^ (E - 126) : ℝ) : EReal) * ((-(Real.log 2)⁻¹ : ℝ) : EReal))
    = rcode ((sil (X n s d * f + o) : ℝ) : EReal) (((2:ℝ) ^ (-(E - 126)) : ℝ) : EReal)

/-- A scaled affine value through the scaled activation is the activation times the reciprocal scale. -/
theorem kcode_real (v xx a b : ℝ) (E : ℤ) (h : xx * a + b = v) :
    kcode ((xx : ℝ) : EReal) (((a : ℝ) : EReal) * (((2:ℝ) ^ (126 - E) : ℝ) : EReal)) (((b : ℝ) : EReal) * (((2:ℝ) ^ (126 - E) : ℝ) : EReal))
      ((((2:ℝ) ^ (E - 126) : ℝ) : EReal) * ((-(Real.log 2)⁻¹ : ℝ) : EReal))
    = rcode ((sil v : ℝ) : EReal) (((2:ℝ) ^ (-(E - 126)) : ℝ) : EReal) := by
  have hq : (2:ℝ) ^ (126 - E) * (2:ℝ) ^ (E - 126) = 1 := by
    rw [← zpow_add₀ (by norm_num)]
    norm_num
  have he : xx * (a * (2:ℝ) ^ (126 - E)) + b * (2:ℝ) ^ (126 - E) = v * (2:ℝ) ^ (126 - E) := by rw [← h]; ring
  have hs : v * (2:ℝ) ^ (126 - E) * ((2:ℝ) ^ (E - 126) * (-(Real.log 2)⁻¹)) = v * (-(Real.log 2)⁻¹) := by
    rw [show v * (2:ℝ) ^ (126 - E) * ((2:ℝ) ^ (E - 126) * (-(Real.log 2)⁻¹)) = ((2:ℝ) ^ (126 - E) * (2:ℝ) ^ (E - 126)) * (v * (-(Real.log 2)⁻¹)) by ring, hq, one_mul]
  unfold kcode rcode
  simp only [← EReal.coe_mul, ← EReal.coe_add]
  rw [he, hs, Ideal.exp2_coe, two_pow_exp, ← EReal.coe_one, ← EReal.coe_add, Ideal.div_coe (one_add_exp_pos (-v)).ne', ← EReal.coe_mul]
  have : v * (2:ℝ) ^ (126 - E) * (1 / (1 + Real.exp (-v))) = sil v * (2:ℝ) ^ (-(E - 126)) := by
    rw [show -(E - 126) = 126 - E by ring]
    unfold sil
    ring
  rw [this]

/-- The SiLU of `⊥` is zero: the denominator is `⊤`. -/
theorem div_bot_top : Ideal.div ⊥ (1 + Ideal.exp2 ⊤) = 0 := by
  rw [Ideal.exp2_top, ← EReal.coe_one, EReal.coe_add_top]
  simp [Ideal.div]

theorem ksilu_bot : ksilu ⊥ = 0 := by
  have hl : (-(Real.log 2)⁻¹) < 0 := neg_neg_of_pos (inv_pos.mpr (Real.log_pos (by norm_num)))
  unfold ksilu
  rw [EReal.bot_mul_coe_of_neg hl, div_bot_top]

/-- The code of a pixel whose channel is shifted by `⊥` is that of zero. -/
theorem kcode_bot (xx f : ℝ) (E : ℤ) :
    kcode ((xx : ℝ) : EReal) (((f : ℝ) : EReal) * (((2:ℝ) ^ (126 - E) : ℝ) : EReal)) (⊥ * (((2:ℝ) ^ (126 - E) : ℝ) : EReal))
      ((((2:ℝ) ^ (E - 126) : ℝ) : EReal) * ((-(Real.log 2)⁻¹ : ℝ) : EReal))
    = rcode 0 (((2:ℝ) ^ (-(E - 126)) : ℝ) : EReal) := by
  have hl : (-(Real.log 2)⁻¹) < 0 := neg_neg_of_pos (inv_pos.mpr (Real.log_pos (by norm_num)))
  have hp : (0:ℝ) < (2:ℝ) ^ (126 - E) := by positivity
  have hn : (2:ℝ) ^ (E - 126) * (-(Real.log 2)⁻¹) < 0 := mul_neg_of_pos_of_neg (by positivity) hl
  unfold kcode rcode
  rw [EReal.bot_mul_coe_of_pos hp, EReal.add_bot, ← EReal.coe_mul ((2:ℝ) ^ (E - 126)), EReal.bot_mul_coe_of_neg hn, div_bot_top, zero_mul]

theorem sil_zero : sil 0 = 0 := by simp [sil]

include hx ht hga hgr hbe hg in
/-- Each channel whose shift is not `⊤` is so described. A shift of `⊥` makes the activation zero. -/
theorem fits (n : Fin 14) (d : Fin 320) (hne : br (ix1 d) ≠ ⊤) : ∃ f o : ℝ, Fits X x tt ga be g t gr br n d f o := by
  obtain ⟨f, o, e0, e1, e2⟩ := affine X G x tt ga be g t gr br hx ht hga hgr hbe hg n d
  by_cases hb : br (ix1 d) = ⊥
  · rw [hb, EReal.bot_add] at e1
    refine ⟨0, 0, fun s => ?_, fun s => ?_, fun s E => ?_⟩
    · refine (ReferenceIdeal.Act.act_bot _ _ ?_).trans ?_
      · rw [e2 s, hb, EReal.add_bot]
      · rw [mul_zero, add_zero, sil_zero, EReal.coe_zero]
    · rw [e1, EReal.add_bot, ksilu_bot, mul_zero, add_zero, sil_zero, EReal.coe_zero]
    · rw [e0, e1, kcode_bot, mul_zero, add_zero, sil_zero, EReal.coe_zero]
  · obtain ⟨b, hb'⟩ : ∃ b : ℝ, br (ix1 d) = ((b : ℝ) : EReal) := ⟨_, (EReal.coe_toReal hne hb).symm⟩
    rw [hb', ← EReal.coe_add] at e1
    refine ⟨f, b + o, fun s => ?_, fun s => ?_, fun s E => ?_⟩
    · refine ReferenceIdeal.Act.act_real _ _ _ ?_
      rw [e2 s, hb', ← EReal.coe_add]
      congr 1
      ring
    · rw [e0, e1, ← EReal.coe_mul, ← EReal.coe_add, ksilu_real]
    · rw [e0, e1]
      exact kcode_real _ _ _ _ E rfl

include hx ht hga hgr hbe hg in
/-- A finite largest magnitude leaves no shift `⊤`. -/
theorem shift_ne_top (j : S_.Idx) (htop : top (full x t gr br) j < ⊤) (d : Fin 320) : br (ix1 d) ≠ ⊤ := by
  intro e
  obtain ⟨f, o, -, -, e2⟩ := affine X G x tt ga be g t gr br hx ht hga hgr hbe hg 0 d
  have h : full x t gr br (ix3 0 0 d) = ⊤ := ReferenceIdeal.Act.act_top _ _ (by rw [e2 0, e, EReal.coe_add_top])
  have hle := (ReferenceIdeal.Act.top_at (full x t gr br) j).1 (ix3 0 0 d)
  rw [h] at hle
  exact absurd ((le_max_left (⊤ : EReal) (-⊤)).trans hle) (not_le.mpr htop)

section
variable (f o : Fin 14 → Fin 320 → ℝ) (hf : ∀ n d, Fits X x tt ga be g t gr br n d (f n d) (o n d))

include hx hZ hf in
/-- The third row holds the larger magnitude of the activation at a channel's two extremes. -/
theorem z2_real (n : Fin 14) (d : Fin 320) : ∃ s1 s0 : Fin 9216, (∀ s, X n s d ≤ X n s1 d) ∧ (∀ s, X n s0 d ≤ X n s d) ∧
    Z (ix3 n 2 d) = ((max |sil (X n s1 d * f n d + o n d)| |sil (X n s0 d * f n d + o n d)| : ℝ) : EReal) := by
  obtain ⟨mx, mn, ⟨hx1, k1, hk1, e1⟩, ⟨hn1, k0, hk0, e0⟩, hv⟩ := (hZ n 2 d).2.2 rfl
  have p : ∀ s : Fin 9216, px (img x n) s.val d.val = ((X n s d : ℝ) : EReal) := fun s => px_real X x hx n s d
  have q1 : mx = ((X n ⟨k1, hk1⟩ d : ℝ) : EReal) := e1.trans (p ⟨k1, hk1⟩)
  have q0 : mn = ((X n ⟨k0, hk0⟩ d : ℝ) : EReal) := e0.trans (p ⟨k0, hk0⟩)
  refine ⟨⟨k1, hk1⟩, ⟨k0, hk0⟩, fun s => ?_, fun s => ?_, ?_⟩
  · exact EReal.coe_le_coe_iff.mp ((p s).symm.le.trans ((hx1 s.val s.isLt).trans q1.le))
  · exact EReal.coe_le_coe_iff.mp (q0.symm.le.trans ((hn1 s.val s.isLt).trans (p s).le))
  · rw [hv, q1, q0, (hf n d).2.1, (hf n d).2.1, kabs_real, kabs_real, coe_max]

include hx hZ hf in
/-- The largest of the third row is the largest magnitude of the activation, once that exceeds `0.28`. -/
theorem amax_real (A : ℝ) (hA : 0.28 < A) (hle : ∀ n s d, |sil (X n s d * f n d + o n d)| ≤ A) (hat : ∃ n s d, A = |sil (X n s d * f n d + o n d)|) :
    (∀ n d, Z (ix3 n 2 d) ≤ ((A : ℝ) : EReal)) ∧ ∃ n d, ((A : ℝ) : EReal) = Z (ix3 n 2 d) := by
  have hup : ∀ n d, Z (ix3 n 2 d) ≤ ((A : ℝ) : EReal) := fun n d => by
    obtain ⟨s1, s0, -, -, e⟩ := z2_real X x tt ga be g t gr br hx Z hZ f o hf n d
    rw [e]
    exact EReal.coe_le_coe_iff.mpr (max_le (hle n s1 d) (hle n s0 d))
  refine ⟨hup, ?_⟩
  obtain ⟨n, s, d, ha⟩ := hat
  refine ⟨n, d, le_antisymm ?_ (hup n d)⟩
  obtain ⟨s1, s0, h1, h0, e⟩ := z2_real X x tt ga be g t gr br hx Z hZ f o hf n d
  rw [e]
  refine EReal.coe_le_coe_iff.mpr ?_
  have h := sil_affine (f n d) (o n d) (X n s d) (X n s0 d) (X n s1 d) (h0 s) (h1 s)
  rw [← ha] at h
  rcases le_max_iff.mp h with h | h
  · linarith
  · exact h

end

end Cert.KernelIdeal.Value
-- ==== Proof.Host.lean ====
module

public import proofs.«01_k».proof.Proof.Gen.KernelIdeal.Frame
public import Idealize.ShloMosaic.Lib.Claim
public import proofs.«01_k».proof.Proof.Arrays
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem host_v8 (r : Fin 16) (l : Fin 256) : (V3 (F := Ideal) m ρ c main_v8 : FVec Ideal S16x256 .bf16) (ix2 r l) = (1 : EReal) := by
  show StableHlo.after hostOps0_2 (W2 (F := Ideal) m ρ c) main_v8 (ix2 r l) = _
  entry_read
  pointwise []

theorem host_v9 (n : Fin 14) (d : Fin 320) : (V3 (F := Ideal) m ρ c main_v9 : FVec Ideal S14x1x320 .bf16) (ix3 n 0 d) = (m ((c : Thread nD τ).loc main_arg1) : FVec Ideal S14x320 .bf16) (ix2 n d) := by
  show StableHlo.after hostOps0_2 (W2 (F := Ideal) m ρ c) main_v9 (ix3 n 0 d) = _
  entry_read
  pointwise []

theorem host_v10 (d : Fin 320) : (V3 (F := Ideal) m ρ c main_v10 : FVec Ideal S1x320 .f32) (ix2 0 d) = (m ((c : Thread nD τ).loc main_arg2) : FVec Ideal S320 .f32) (ix1 d) := by
  show StableHlo.after hostOps0_2 (W2 (F := Ideal) m ρ c) main_v10 (ix2 0 d) = _
  entry_read
  pointwise []

theorem host_v11 (d : Fin 320) : (V3 (F := Ideal) m ρ c main_v11 : FVec Ideal S1x320 .f32) (ix2 0 d) = (m ((c : Thread nD τ).loc main_arg3) : FVec Ideal S320 .f32) (ix1 d) := by
  show StableHlo.after hostOps0_2 (W2 (F := Ideal) m ρ c) main_v11 (ix2 0 d) = _
  entry_read
  pointwise []

/-- The group number of channel `i`, as the host computes it. -/
theorem host_v1 (i : Fin 320) : (W2 (F := Ideal) m ρ c main_v1 : IVec S320 32) (ix1 i) = BitVec.ofNat 32 (i.val / 10) := by
  show StableHlo.after hostOps0_1 (StableHlo.after hostOps0 (W0 (F := Ideal) m ρ c)) main_v1 (ix1 i) = _
  entry_read
  revert i
  decide +kernel

theorem host_v7 (i j : Fin 320) : (V3 (F := Ideal) m ρ c main_v7 : FVec Ideal S320x320 .f32) (ix2 i j) = if i.val / 10 = j.val / 10 then (1 : EReal) else 0 := by
  have hi := host_v1 m ρ c i
  have hj := host_v1 m ρ c j
  show StableHlo.after hostOps0_2 (W2 (F := Ideal) m ρ c) main_v7 (ix2 i j) = _
  generalize W2 (F := Ideal) m ρ c = σ at hi hj ⊢
  entry_read
  pointwise [hi, hj]
  have hlt : ∀ k : Fin 320, (BitVec.ofNat 32 (k.val / 10)).toNat = k.val / 10 := fun k => by
    rw [BitVec.toNat_ofNat]
    exact Nat.mod_eq_of_lt (by omega)
  by_cases h : i.val / 10 = j.val / 10
  · rw [if_pos h, h]
    have e : FloatOps.uitofp (F := Ideal) .f32 (1#1) = (((1#1).toNat : ℝ) : EReal) := rfl
    simp [IntOp.cmpi, e]
  · rw [if_neg h]
    have hne : BitVec.ofNat 32 (i.val / 10) ≠ BitVec.ofNat 32 (j.val / 10) := fun e => h (by rw [← hlt i, ← hlt j, e])
    have e : FloatOps.uitofp (F := Ideal) .f32 (0#1) = (((0#1).toNat : ℝ) : EReal) := rfl
    have e' : IntOp.cmpi .eq (BitVec.ofNat 32 (i.val / 10)) (BitVec.ofNat 32 (j.val / 10)) = 0#1 := by
      simp only [IntOp.cmpi]
      rw [beq_eq_false_iff_ne.mpr hne]
      rfl
    rw [e', e]
    simp

/-- The codes at the end are the second kernel's. -/
theorem res_codes : W6 (F := Ideal) m ρ c (Proc.devRef .tc main_v13_0) = (dat1 (V4 (F := Ideal) m ρ) c).arrAt 3 cfg1.N :=
  (W6_of m ρ c main_v13_0 (by decide)).trans (W5_arr m ρ c 3)

/-- The scale at the end is the first element of the second kernel's scale block. -/
theorem res_scale (j : S_.Idx) : (W6 (F := Ideal) m ρ c (Proc.devRef .tc main_v15) : FVec Ideal S_ .f32) j
    = ((dat1 (V4 (F := Ideal) m ρ) c).arrAt 4 cfg1.N : FVec Ideal S8x128 .f32) (ix2 0 0) := by
  rw [← W5_arr m ρ c 4]
  show StableHlo.after hostOps2 (W5 (F := Ideal) m ρ c) main_v15 j = W5 (F := Ideal) m ρ c (Proc.devRef .tc main_v13_1) (ix2 0 0)
  generalize W5 (F := Ideal) m ρ c = σ
  entry_read
  pointwise []

/-- The coefficients as the second kernel finds them. -/
theorem mid_coef : V4 (F := Ideal) m ρ c main_v12 = (dat0 (V3 (F := Ideal) m ρ) c).arrAt 6 cfg0.N := W4_arr m ρ c 6

theorem mid_x : V4 (F := Ideal) m ρ c main_arg0 = m ((c : Thread nD τ).loc main_arg0) := W4_args m ρ c main_arg0 (by decide)

theorem pre_x : V3 (F := Ideal) m ρ c main_arg0 = m ((c : Thread nD τ).loc main_arg0) := W3_args m ρ c main_arg0 (by decide)

end Cert.KernelIdeal.Value
-- ==== Proof.Results.lean ====
module

public import proofs.«01_k».proof.Proof.Equal
public import proofs.«01_k».proof.Proof.Host

@[expose] public section

set_option maxRecDepth 16384

noncomputable section

namespace Cert.KernelIdeal.Value

open Idealize.ShloMosaic Idealize.ShloMosaic.TcCoe Idealize.SL.Sem
open Cert.KernelIdeal Cert.KernelIdeal.Gen Cert.RealFacts
open Cert.ReferenceIdeal.Act (top full expo rcode quant quant_at)

/-! The kernel's two results are the reference's, on arguments in range. -/

variable (m : (ℓ : Loc nD τ sig) → Buf (Elt Ideal) ℓ) (ρ : Dev nD → PrngReg) (c : Dev nD)
variable (x : FVec Ideal S14x9216x320 .bf16) (t : FVec Ideal S14x320 .bf16) (ga be : FVec Ideal S320 .f32)
variable (h0 : m ((c : Thread nD τ).loc main_arg0) = x) (h1 : m ((c : Thread nD τ).loc main_arg1) = t)
variable (h2 : m ((c : Thread nD τ).loc main_arg2) = ga) (h3 : m ((c : Thread nD τ).loc main_arg3) = be)
variable (fx : ∀ i, ∃ r : ℝ, x i = r) (fga : ∀ i, ∃ r : ℝ, ga i = r)
variable (lo : ∀ j, Ideal.ofBits .f32 0x3E8F5C29#32 < top (full x t ga be) j) (hi : ∀ j, top (full x t ga be) j < Ideal.ofBits .f32 0x7F61B1E6#32)

theorem lo_bits : Ideal.ofBits .f32 0x3E8F5C29#32 = ((9395241/33554432 : ℝ) : EReal) := by
  simp [Ideal.ofBits, Ideal.ieee, -EReal.coe_mul]
  norm_num

theorem hi_bits : Ideal.ofBits .f32 0x7F61B1E6#32 = ((300000000549775575777803994281145270272 : ℝ) : EReal) := by
  simp [Ideal.ofBits, Ideal.ieee, -EReal.coe_mul]
  norm_num

/-- The coefficient array the second kernel finds. -/
theorem coef_at (Z : FVec Ideal S14x8x320 .f32) (hZ : V4 (F := Ideal) m ρ c main_v12 = Z) (n : Fin 14) (r : Fin 8) (d : Fin 320) :
    CoefAt (m ((c : Thread nD τ).loc main_arg0)) (V3 (F := Ideal) m ρ c main_v9) (V3 (F := Ideal) m ρ c main_v10) (V3 (F := Ideal) m ρ c main_v11) (V3 (F := Ideal) m ρ c main_v7)
      n d r (Z (ix3 n r d)) := by
  have h := coefs (V3 (F := Ideal) m ρ) c (host_v8 m ρ c) (ix3 n r d)
  rw [pre_x m ρ c] at h
  have e : (dat0 (V3 (F := Ideal) m ρ) c).arrAt 6 cfg0.N = Z := (mid_coef m ρ c).symm.trans hZ
  rw [e] at h
  exact h

include h0 h1 h2 h3 fx fga lo hi

theorem results :
    (W6 (F := Ideal) m ρ c (Proc.devRef .tc main_v13_0) : FVec Ideal S14x9216x320 .fp8e4m3)
      = quant (full x t ga be) (Host.powf (constant S_ .f32 0x40000000#32) (Host.negf (expo (top (full x t ga be))))) ∧
    (W6 (F := Ideal) m ρ c (Proc.devRef .tc main_v15) : FVec Ideal S_ .f32) = Host.powf (constant S_ .f32 0x40000000#32) (expo (top (full x t ga be))) := by
  choose X' hX' using fx
  choose G' hG' using fga
  obtain ⟨X, hX⟩ : ∃ X : Fin 14 → Fin 9216 → Fin 320 → ℝ, ∀ n s d, x (ix3 n s d) = ((X n s d : ℝ) : EReal) := ⟨fun n s d => X' (ix3 n s d), fun n s d => hX' _⟩
  obtain ⟨G, hG⟩ : ∃ G : Fin 320 → ℝ, ∀ d, ga (ix1 d) = ((G d : ℝ) : EReal) := ⟨fun d => G' (ix1 d), fun d => hG' _⟩
  obtain ⟨Z, hZ⟩ : ∃ Z : FVec Ideal S14x8x320 .f32, V4 (F := Ideal) m ρ c main_v12 = Z := ⟨_, rfl⟩
  have hC := coef_at m ρ c Z hZ
  rw [h0] at hC
  have hT3 : ∀ n d, (V3 (F := Ideal) m ρ c main_v9 : FVec Ideal S14x1x320 .bf16) (ix3 n 0 d) = t (ix2 n d) := fun n d => by
    rw [host_v9 m ρ c n d, h1]
  have hG3 : ∀ d, (V3 (F := Ideal) m ρ c main_v10 : FVec Ideal S1x320 .f32) (ix2 0 d) = ((G d : ℝ) : EReal) := fun d => by
    rw [host_v10 m ρ c d, h2]
    exact hG d
  have hB3 : ∀ d, (V3 (F := Ideal) m ρ c main_v11 : FVec Ideal S1x320 .f32) (ix2 0 d) = be (ix1 d) := fun d => by
    rw [host_v11 m ρ c d, h3]
  have hg3 := host_v7 m ρ c
  have hne := shift_ne_top X G x _ _ _ _ t ga be hX hT3 hG3 hG hB3 hg3 ix0 ((hi ix0).trans (by rw [hi_bits]; exact EReal.coe_lt_top _))
  have hfit := fun n d => fits X G x _ _ _ _ t ga be hX hT3 hG3 hG hB3 hg3 n d (hne d)
  choose f o hf using hfit
  obtain ⟨A, hA, hle, hat⟩ := ReferenceIdeal.Act.top_real (full x t ga be) (fun n s d => X n s d * f n d + o n d) (fun n s d => (hf n d).1 s) ix0
  have hA' : ∀ j, top (full x t ga be) j = ((A : ℝ) : EReal) := fun j => by
    rw [show j = ix0 from funext fun a => a.elim0]
    exact hA
  have hlo : 9395241/33554432 < A := by
    have := lo ix0
    rw [hA, lo_bits] at this
    exact EReal.coe_lt_coe_iff.mp this
  have hhi : A < 300000000549775575777803994281145270272 := by
    have := hi ix0
    rw [hA, hi_bits] at this
    exact EReal.coe_lt_coe_iff.mp this
  have hA28 : 0.28 < A := by norm_num at hlo ⊢; linarith
  have hApos : 0 < A := by linarith
  obtain ⟨E, e0, e1, hE, hE', he⟩ := exponent (A * (9586981/4294967296)) (by norm_num at hlo ⊢; linarith) (by norm_num at hhi ⊢; linarith)
  have hexpo : ∀ j, expo (top (full x t ga be)) j = ((((E:ℤ) - 126 : ℤ) : ℝ) : EReal) := fun j => by
    rw [ReferenceIdeal.Act.expo_real _ j A (hA' j) hApos, he]
  obtain ⟨hup, n', d', hatt⟩ := amax_real X x _ _ _ _ t ga be hX Z hC f o hf A hA28 hle hat
  have hmw : ((A : ℝ) : EReal) * Ideal.ofBits .f32 0x3B124925#32 = ((A * (9586981/4294967296) : ℝ) : EReal) := by
    rw [ReferenceIdeal.Act.coef_bits, EReal.coe_mul]
  constructor
  · rw [res_codes m ρ c]
    rw [codes_arr (V4 (F := Ideal) m ρ) c Z hZ _ _ E hup ⟨n', d', hatt⟩ hmw e0 e1 hE hE']
    funext i
    rw [mid_x m ρ c, h0]
    have ei : i = ix3 (i 0) (i 1) (i 2) := by
      funext a
      match a with
      | ⟨0, _⟩ => rfl
      | ⟨1, _⟩ => rfl
      | ⟨2, _⟩ => rfl
    obtain ⟨n, s, d, rfl⟩ : ∃ n s d, i = ix3 n s d := ⟨_, _, _, ei⟩
    have q0 := (hC n 0 d).1 rfl
    have q1 := (hC n 1 d).2.1 rfl
    refine (congr (congr (congr (congrArg kcode (hX n s d)) (congrArg (· * (((2:ℝ)^(126-(E:ℤ)) : ℝ) : EReal)) q0)) (congrArg (· * (((2:ℝ)^(126-(E:ℤ)) : ℝ) : EReal)) q1)) rfl).trans ?_
    rw [quant_at, (hf n d).1 s, ReferenceIdeal.Act.inv_real _ _ hexpo]
    exact (hf n d).2.2 s E
  · funext j
    rw [ReferenceIdeal.Act.scale_real _ j _ (hexpo j), res_scale m ρ c j]
    rw [scale_arr (V4 (F := Ideal) m ρ) c Z hZ _ _ E hup ⟨n', d', hatt⟩ hmw e0 e1 hE hE']

end Cert.KernelIdeal.Value
-- ==== Proof.RefPre.lean ====
module

public import proofs.«01_k».proof.Proof.RefTerm

@[expose] public section

set_option maxRecDepth 16384

noncomputable section

namespace Cert.ReferenceIdeal.Act

open Idealize.ShloMosaic Idealize.ShloMosaic.TcCoe Idealize.SL.Sem
open Cert.ReferenceIdeal Cert.ReferenceIdeal.Gen Cert.ReferenceIdeal.Facts

/-! What the precondition says of the arguments. -/

/-- A compared bit that is one. -/
theorem of_lt {a b : EReal} (h : FloatOps.cmpf (F := Ideal) (φ := .f32) .olt a b = 1#1) : a < b := by
  by_contra hn
  have : Ideal.cmp .olt a b = 0#1 := by simp [Ideal.cmp, hn]
  exact absurd (h.symm.trans this) (by decide)

theorem of_gt {a b : EReal} (h : FloatOps.cmpf (F := Ideal) (φ := .f32) .ogt a b = 1#1) : b < a := by
  by_contra hn
  have : Ideal.cmp .ogt a b = 0#1 := by simp [Ideal.cmp, hn]
  exact absurd (h.symm.trans this) (by decide)

theorem inf_bits : Ideal.ofBits .f32 0x7F800000#32 = ⊤ := by simp [Ideal.ofBits, Ideal.ieee]

theorem fin_of_abs {a : EReal} (h : FloatOps.cmpf (F := Ideal) (φ := .f32) .olt (FloatOps.absf (F := Ideal) (φ := .f32) a) (Ideal.ofBits .f32 0x7F800000#32) = 1#1) :
    ∃ r : ℝ, a = r := by
  have h' := of_lt h
  rw [inf_bits] at h'
  have h'' : max a (-a) < ⊤ := h'
  induction a using EReal.rec with
  | bot => simp at h''
  | top => simp at h''
  | coe r => exact ⟨r, rfl⟩

variable (x : FVec Ideal S14x9216x320 .bf16) (t : FVec Ideal S14x320 .bf16) (ga be : FVec Ideal S320 .f32)

/-! The precondition's second half, of any largest value `a` and any absolute values `z`. -/

theorem half_x (a : FVec Ideal S_ .f32) (z : FVec Ideal S14x9216x320 .f32) (h : (Pre_in_range.fn_part2 (F := Ideal) ga a z).1 = fun _ => 1#1) (i : S14x9216x320.Idx) :
    FloatOps.cmpf (F := Ideal) (φ := .f32) .olt (z i) (Ideal.ofBits .f32 0x7F800000#32) = 1#1 := by
  unfold Pre_in_range.fn_part2 at h
  dsimp only at h
  exact Host.reduce_andi_all _ _ _ _ ix0 (congrFun h ix0) i

theorem half_ga (a : FVec Ideal S_ .f32) (z : FVec Ideal S14x9216x320 .f32) (h : (Pre_in_range.fn_part2 (F := Ideal) ga a z).2.1 = fun _ => 1#1) (i : S320.Idx) :
    FloatOps.cmpf (F := Ideal) (φ := .f32) .olt (FloatOps.absf (F := Ideal) (φ := .f32) (ga i)) (Ideal.ofBits .f32 0x7F800000#32) = 1#1 := by
  unfold Pre_in_range.fn_part2 at h
  dsimp only at h
  exact Host.reduce_andi_all _ _ _ _ ix0 (congrFun h ix0) i

theorem half_lo (a : FVec Ideal S_ .f32) (z : FVec Ideal S14x9216x320 .f32) (h : (Pre_in_range.fn_part2 (F := Ideal) ga a z).2.2.1 = fun _ => 1#1) (j : S_.Idx) :
    Ideal.ofBits .f32 0x3E8F5C29#32 < a j := by
  unfold Pre_in_range.fn_part2 at h
  dsimp only at h
  exact of_gt (congrFun h j)

theorem half_hi (a : FVec Ideal S_ .f32) (z : FVec Ideal S14x9216x320 .f32) (h : (Pre_in_range.fn_part2 (F := Ideal) ga a z).2.2.2 = fun _ => 1#1) (j : S_.Idx) :
    a j < Ideal.ofBits .f32 0x7F61B1E6#32 := by
  unfold Pre_in_range.fn_part2 at h
  dsimp only at h
  exact of_lt (congrFun h j)

/-- The first part computes the largest value from the deviations and the variances. -/
theorem part1_form (d : FVec Ideal S14x9216x32x10 .f32) :
    Pre_in_range.fn_part1 (F := Ideal) x ga be d (addf (avg (mulf d d)) (broadcastInDim S14x1x32x1 ![] bcast_S_S14x1x32x1 (constant S_ .f32 0x3727C5AC#32)))
    = Pre_in_range.fn_part2 (F := Ideal) ga (top (act (nrm d ga be))) (Host.absf (extf .f32 x bitsLt_bf16_f32)) := by
  unfold Pre_in_range.fn_part1 nrm
  generalize avg (mulf d d) = w
  dsimp only
  refine congrArg (fun q => Pre_in_range.fn_part2 (F := Ideal) ga q (Host.absf (extf .f32 x bitsLt_bf16_f32))) ?_
  unfold top
  refine congrArg (fun q => Host.reduce FloatOps.maximumf (Host.absf q) (constant S_ .f32 0xFF800000#32) reducesTo_S14x9216x320_S_d0_1_2 h_S_) ?_
  rfl

/-- The head computes the deviations and the variances. -/
theorem head_form : Pre_in_range.fn (F := Ideal) x t ga be
    = Pre_in_range.fn_part1 (F := Ideal) x ga be (dev (hid x t)) (addf (avg (mulf (dev (hid x t)) (dev (hid x t)))) (broadcastInDim S14x1x32x1 ![] bcast_S_S14x1x32x1 (constant S_ .f32 0x3727C5AC#32))) := by
  unfold Pre_in_range.fn
  dsimp only
  refine (?_ : _ = Pre_in_range.fn_part1 (F := Ideal) x ga be (dev (hid x t)) _)
  refine congr (congrArg (Pre_in_range.fn_part1 (F := Ideal) x ga be) ?_) ?_
  · unfold dev hid avg
    rfl
  · unfold dev hid avg
    rfl

/-- The precondition's last two conditions are on the same largest value as the reference's. -/
theorem pre_form : Pre_in_range.fn (F := Ideal) x t ga be
    = Pre_in_range.fn_part2 (F := Ideal) ga (top (full x t ga be)) (Host.absf (extf .f32 x bitsLt_bf16_f32)) :=
  (head_form x t ga be).trans (part1_form x ga be (dev (hid x t)))

theorem pre_x (h : (Pre_in_range.fn (F := Ideal) x t ga be).1 = fun _ => 1#1) (i : S14x9216x320.Idx) : ∃ r : ℝ, x i = r := by
  rw [pre_form] at h
  exact fin_of_abs (half_x ga _ _ h i)

theorem pre_ga (h : (Pre_in_range.fn (F := Ideal) x t ga be).2.1 = fun _ => 1#1) (i : S320.Idx) : ∃ r : ℝ, ga i = r := by
  rw [pre_form] at h
  exact fin_of_abs (half_ga ga _ _ h i)

theorem pre_lo (h : (Pre_in_range.fn (F := Ideal) x t ga be).2.2.1 = fun _ => 1#1) (j : S_.Idx) : Ideal.ofBits .f32 0x3E8F5C29#32 < top (full x t ga be) j := by
  rw [pre_form] at h
  exact half_lo ga _ _ h j

theorem pre_hi (h : (Pre_in_range.fn (F := Ideal) x t ga be).2.2.2 = fun _ => 1#1) (j : S_.Idx) : top (full x t ga be) j < Ideal.ofBits .f32 0x7F61B1E6#32 := by
  rw [pre_form] at h
  exact half_hi ga _ _ h j

end Cert.ReferenceIdeal.Act
-- ==== Proof.KernelRun.lean ====
module

public import proofs.«01_k».proof.Proof.Gen.KernelIdeal.Frame
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The state assertions of this program. -/
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run of the kernel with its two results named: the contents of the last boundary. -/
theorem run : θ_run defs (onTc (τ := τ) (main (F := Ideal))) ⟨m, fun _ => 0, ρ⟩ (fun r => ∀ c : Dev nD,
      r.2.mem ((c.tc : Thread nD τ).loc main_v13_0) = W6 m ρ c (Proc.devRef .tc main_v13_0)
      ∧ r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v13_0 (by decide)), h c _ (mem_uc main_v15 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Gen
-- ==== Proof.Algebraic.lean ====
module

public import proofs.«01_k».proof.Defs
public import proofs.«01_k».proof.Proof.Results
public import proofs.«01_k».proof.Proof.RefPre
public import proofs.«01_k».proof.Proof.KernelRun

@[expose] public section

set_option maxRecDepth 16384

noncomputable section

namespace Cert.Algebraic

open Idealize.ShloMosaic Idealize.ShloMosaic.TcCoe Idealize.SL.Sem

/-- On arguments in range, the kernel and the reference leave the same codes and the same scale. -/
theorem algebraic : Cert.algebraic_KernelIdeal_ReferenceIdeal_pre_in_range := by
  intro m g m' g' hpre harg
  refine ⟨fun c => KernelIdeal.Gen.W6 (F := Ideal) m g c (Proc.devRef .tc KernelIdeal.main_v13_0),
    fun c => KernelIdeal.Gen.W6 (F := Ideal) m g c (Proc.devRef .tc KernelIdeal.main_v15), ?_, ?_⟩
  · exact KernelIdeal.Gen.run m g
  · refine (θ_run _ _ _).mono (fun r h c => ?_) (ReferenceIdeal.Value.run m' g')
    obtain ⟨h1, h2, k0, k1, k2, k3⟩ := h c
    obtain ⟨a0, a1, a2, a3⟩ := harg c
    obtain ⟨p0, p1, p2, p3⟩ := hpre c
    obtain ⟨r1, r2⟩ := KernelIdeal.Value.results m g c _ _ _ _ rfl rfl rfl rfl (ReferenceIdeal.Act.pre_x _ _ _ _ p0) (ReferenceIdeal.Act.pre_ga _ _ _ _ p1)
      (ReferenceIdeal.Act.pre_lo _ _ _ _ p2) (ReferenceIdeal.Act.pre_hi _ _ _ _ p3)
    refine ⟨?_, ?_, k0, k1, k2, k3⟩
    · refine h1.trans ((ReferenceIdeal.Act.host_codes m' c).trans ?_)
      rw [a0, a1, a2, a3]
      exact r1.symm
    · refine h2.trans ((ReferenceIdeal.Act.host_scale m' c).trans ?_)
      rw [a0, a1, a2, a3]
      exact r2.symm

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the kernel are the generated ones, that of the reference is `Cert.ReferenceIdeal.Act.frame`; each named constant is the real number it is named after; the results agree by
    `Cert.Algebraic.algebraic`. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Act.frame m ρ, fun m ρ _ => Cert.ReferenceIdeal.Act.frame m ρ,
    ⟨IdealRules.named_const.statement Cert.KernelIdeal.κ "inv_seq" .f32 0x38E38E39#32 ((1 / 9216 : ℝ) : EReal) rfl,
    IdealRules.named_const.statement Cert.KernelIdeal.κ "inv_gw" .f32 0x3DCCCCCD#32 ((1 / 10 : ℝ) : EReal) rfl,
    IdealRules.named_const.statement Cert.KernelIdeal.κ "neg_log2e" .f32 0xBFB8AA3B#32 ((-((Real.log 2)⁻¹) : ℝ) : EReal) rfl⟩,
    Cert.Algebraic.algebraic⟩

end Cert.Proof

end
